-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x192x112x112 : Shape := ⟨4, ![8, 192, 112, 112]⟩
abbrev S1536x12544 : Shape := ⟨2, ![1536, 12544]⟩
abbrev S1536 : Shape := ⟨1, ![1536]⟩
abbrev S1536x1 : Shape := ⟨2, ![1536, 1]⟩
abbrev S12544 : Shape := ⟨1, ![12544]⟩
abbrev S_ : Shape := ⟨0, ![]⟩
abbrev S1x12544 : Shape := ⟨2, ![1, 12544]⟩
abbrev S1536x50176 : Shape := ⟨2, ![1536, 50176]⟩
abbrev S1536x12544x1 : Shape := ⟨3, ![1536, 12544, 1]⟩
abbrev S1536x12544x2 : Shape := ⟨3, ![1536, 12544, 2]⟩
abbrev S16 : Shape := ⟨1, ![16]⟩
abbrev S8x192x224x224 : Shape := ⟨4, ![8, 192, 224, 224]⟩

abbrev nBuf : Table → Nat
  | .hbm => 35
  | .local .scVector .vmem => 3
  | _ => 0

abbrev bufTy : (tb : Table) → Fin (nBuf tb) → BufTy
  | .hbm, ⟨0, _⟩ => ⟨S8x192x112x112, .f32⟩
  | .hbm, ⟨1, _⟩ => ⟨S8x192x112x112, .i32⟩
  | .hbm, ⟨2, _⟩ => ⟨S1536x12544, .f32⟩
  | .hbm, ⟨3, _⟩ => ⟨S1536x12544, .i32⟩
  | .hbm, ⟨4, _⟩ => ⟨S1536, .i32⟩
  | .hbm, ⟨5, _⟩ => ⟨S1536x1, .i32⟩
  | .hbm, ⟨6, _⟩ => ⟨S12544, .f32⟩
  | .hbm, ⟨7, _⟩ => ⟨S_, .f32⟩
  | .hbm, ⟨8, _⟩ => ⟨S12544, .f32⟩
  | .hbm, ⟨9, _⟩ => ⟨S12544, .f32⟩
  | .hbm, ⟨10, _⟩ => ⟨S1x12544, .f32⟩
  | .hbm, ⟨11, _⟩ => ⟨S1536x12544, .f32⟩
  | .hbm, ⟨12, _⟩ => ⟨S_, .f32⟩
  | .hbm, ⟨13, _⟩ => ⟨S1536x50176, .f32⟩
  | .hbm, ⟨14, _⟩ => ⟨S_, .i32⟩
  | .hbm, ⟨15, _⟩ => ⟨S1536x1, .i32⟩
  | .hbm, ⟨16, _⟩ => ⟨S1536x1, .i1⟩
  | .hbm, ⟨17, _⟩ => ⟨S_, .i32⟩
  | .hbm, ⟨18, _⟩ => ⟨S1536x1, .i32⟩
  | .hbm, ⟨19, _⟩ => ⟨S1536x1, .i32⟩
  | .hbm, ⟨20, _⟩ => ⟨S1536x1, .i32⟩
  | .hbm, ⟨21, _⟩ => ⟨S_, .i32⟩
  | .hbm, ⟨22, _⟩ => ⟨S1536x12544, .i32⟩
  | .hbm, ⟨23, _⟩ => ⟨S1536x12544, .i1⟩
  | .hbm, ⟨24, _⟩ => ⟨S_, .i32⟩
  | .hbm, ⟨25, _⟩ => ⟨S1536x12544, .i32⟩
  | .hbm, ⟨26, _⟩ => ⟨S1536x12544, .i32⟩
  | .hbm, ⟨27, _⟩ => ⟨S1536x12544, .i32⟩
  | .hbm, ⟨28, _⟩ => ⟨S1536x12544, .i32⟩
  | .hbm, ⟨29, _⟩ => ⟨S1536x12544x1, .i32⟩
  | .hbm, ⟨30, _⟩ => ⟨S1536x12544x1, .i32⟩
  | .hbm, ⟨31, _⟩ => ⟨S1536x12544x2, .i32⟩
  | .hbm, ⟨32, _⟩ => ⟨S1536x50176, .f32⟩
  | .hbm, ⟨33, _⟩ => ⟨S1536x50176, .f32⟩
  | .hbm, ⟨34, _⟩ => ⟨S8x192x224x224, .f32⟩
  | .local .scVector .vmem, ⟨0, _⟩ => ⟨S12544, .f32⟩
  | .local .scVector .vmem, ⟨1, _⟩ => ⟨S12544, .f32⟩
  | .local .scVector .vmem, ⟨2, _⟩ => ⟨S12544, .f32⟩
  | _, _ => ⟨S8x192x112x112, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v0_scv : Ref sig .scVector := ⟨.hbm, 2, rfl⟩
abbrev main_v24_scv : Ref sig .scVector := ⟨.hbm, 32, rfl⟩
abbrev main_v25_scv : Ref sig .scVector := ⟨.hbm, 33, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c48_i32 : BitVec 32 := 48#32
  let v2 : BitVec 32 := Scalar.addi c0_i32_0 c48_i32
  let c1_i32 : BitVec 32 := 1#32
  ⟨c0_i32_0, v2, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_2 : BitVec 32 := 48#32
  let v3 : BitVec 32 := Scalar.muli v1 c48_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_7_r0 : BitVec 32 := 0#32
  ![v4.toNat, 0]
@[reducible] def k0_t2_loop : Scf.Loop 32 :=
  let c0_i32_4 : BitVec 32 := 0#32
  let c4_i32 : BitVec 32 := 4#32
  let v5 : BitVec 32 := Scalar.addi c0_i32_4 c4_i32
  let c1_i32_5 : BitVec 32 := 1#32
  ⟨c0_i32_4, v5, c1_i32_5⟩
def k0_off2 (i : grid0.Coords) (k0_t1 : Fin k0_t1_loop.trips) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_2 : BitVec 32 := 48#32
  let v3 : BitVec 32 := Scalar.muli v1 c48_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_4 : BitVec 32 := 0#32
  let c1_i32_5 : BitVec 32 := 1#32
  let arg9 : BitVec 32 := Scf.iv c0_i32_4 c1_i32_5 k0_t2
  let c12544_i32 : BitVec 32 := 12544#32
  let v6 : BitVec 32 := Scalar.muli arg9 c12544_i32
  ![v4.toNat, v6.toNat]
@[reducible] def k0_t3_loop : Scf.Loop 32 :=
  let c0_i32_8 : BitVec 32 := 0#32
  let c784_i32 : BitVec 32 := 784#32
  let v7 : BitVec 32 := Scalar.addi c0_i32_8 c784_i32
  let c1_i32_9 : BitVec 32 := 1#32
  ⟨c0_i32_8, v7, c1_i32_9⟩
def k0_off3 (k0_t3 : Fin k0_t3_loop.trips) : Fin 1 → Nat :=
  let c0_i32_8 : BitVec 32 := 0#32
  let c1_i32_9 : BitVec 32 := 1#32
  let arg10 : BitVec 32 := Scf.iv c0_i32_8 c1_i32_9 k0_t3
  let c16_i32 : BitVec 32 := 16#32
  let v9 : BitVec 32 := Scalar.muli arg10 c16_i32
  let v10 : Index := Scalar.indexCast v9
  ![v10.toNat]

def k0_chk1 (v16 : IVec S16 32) : Prop :=
  (∀ a x, ((![v16] : Fin 1 → IVec S16 32) a x).toNat < S12544.size a)
theorem k0_idx1_inb : ∀ (v16 : IVec S16 32) (k0_hw1 : k0_chk1 v16), ∀ a x, ((![v16] : Fin 1 → IVec S16 32) a x).toNat < S12544.size a := fun v16 k0_hw1 => k0_hw1
def k0_off4 (k0_t3 : Fin k0_t3_loop.trips) : Fin 1 → Nat :=
  let c0_i32_8 : BitVec 32 := 0#32
  let c1_i32_9 : BitVec 32 := 1#32
  let arg10 : BitVec 32 := Scf.iv c0_i32_8 c1_i32_9 k0_t3
  let c16_i32_15 : BitVec 32 := 16#32
  let v22 : BitVec 32 := Scalar.muli arg10 c16_i32_15
  let v23 : Index := Scalar.indexCast v22
  ![v23.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x192x112x112 : Shape := ⟨4, ![8, 192, 112, 112]⟩
abbrev S1536x12544 : Shape := ⟨2, ![1536, 12544]⟩
abbrev S1536 : Shape := ⟨1, ![1536]⟩
abbrev S1536x1 : Shape := ⟨2, ![1536, 1]⟩
abbrev S_ : Shape := ⟨0, ![]⟩
abbrev S1536x50176 : Shape := ⟨2, ![1536, 50176]⟩
abbrev S1536x12544x1 : Shape := ⟨3, ![1536, 12544, 1]⟩
abbrev S1536x12544x2 : Shape := ⟨3, ![1536, 12544, 2]⟩
abbrev S8x192x224x224 : Shape := ⟨4, ![8, 192, 224, 224]⟩

abbrev nBuf : Space → Nat
  | .hbm => 28
  | .vmem => 0
  | .smem => 0
  | _ => 0

abbrev bufTy : (tb : Table) → Fin (tcTables nBuf tb) → BufTy
  | .hbm, ⟨0, _⟩ => ⟨S8x192x112x112, .f32⟩
  | .hbm, ⟨1, _⟩ => ⟨S8x192x112x112, .i32⟩
  | .hbm, ⟨2, _⟩ => ⟨S1536x12544, .f32⟩
  | .hbm, ⟨3, _⟩ => ⟨S1536x12544, .i32⟩
  | .hbm, ⟨4, _⟩ => ⟨S1536, .i32⟩
  | .hbm, ⟨5, _⟩ => ⟨S1536x1, .i32⟩
  | .hbm, ⟨6, _⟩ => ⟨S_, .f32⟩
  | .hbm, ⟨7, _⟩ => ⟨S1536x50176, .f32⟩
  | .hbm, ⟨8, _⟩ => ⟨S_, .i32⟩
  | .hbm, ⟨9, _⟩ => ⟨S1536x1, .i32⟩
  | .hbm, ⟨10, _⟩ => ⟨S1536x1, .i1⟩
  | .hbm, ⟨11, _⟩ => ⟨S_, .i32⟩
  | .hbm, ⟨12, _⟩ => ⟨S1536x1, .i32⟩
  | .hbm, ⟨13, _⟩ => ⟨S1536x1, .i32⟩
  | .hbm, ⟨14, _⟩ => ⟨S1536x1, .i32⟩
  | .hbm, ⟨15, _⟩ => ⟨S_, .i32⟩
  | .hbm, ⟨16, _⟩ => ⟨S1536x12544, .i32⟩
  | .hbm, ⟨17, _⟩ => ⟨S1536x12544, .i1⟩
  | .hbm, ⟨18, _⟩ => ⟨S_, .i32⟩
  | .hbm, ⟨19, _⟩ => ⟨S1536x12544, .i32⟩
  | .hbm, ⟨20, _⟩ => ⟨S1536x12544, .i32⟩
  | .hbm, ⟨21, _⟩ => ⟨S1536x12544, .i32⟩
  | .hbm, ⟨22, _⟩ => ⟨S1536x12544, .i32⟩
  | .hbm, ⟨23, _⟩ => ⟨S1536x12544x1, .i32⟩
  | .hbm, ⟨24, _⟩ => ⟨S1536x12544x1, .i32⟩
  | .hbm, ⟨25, _⟩ => ⟨S1536x12544x2, .i32⟩
  | .hbm, ⟨26, _⟩ => ⟨S1536x50176, .f32⟩
  | .hbm, ⟨27, _⟩ => ⟨S8x192x224x224, .f32⟩
  | _, _ => ⟨S8x192x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Value.lean ====
/-
  What one element of the unpooled array is, and where the kernel's copies lie in the arrays: the row of `x` a tile
  fetches, the chunk of the position array it fetches beside it, the chunk of the result it writes. Everything here
  holds over any float values.
-/
module

public import proofs.«01_k».proof.Defs
public import Idealize.ShloMosaic.Lib.ValueIdxCore
public import Idealize.ShloMosaic.Lib.ViewIndex
public import Idealize.ShloMosaic.Lib.Pipeline.ValueKit.Geometry
public import proofs.«01_k».proof.Proof.Gen.KernelIdeal
public import proofs.«01_k».proof.Proof.Gen.KernelIdeal.Skeleton

@[expose] public section

noncomputable section

namespace Cert.Proof.Unpool

open Cert.KernelIdeal Cert.KernelIdeal.Gen
open Idealize.ShloMosaic
open Idealize.ShloMosaic.ValueIdx (ix1 ix2 eq_ix1 eq_ix2)

variable {F : FTy → Type} [FloatOps F]

/-! ## The value of one element -/

/-- The word a position value names: the position as an integer, less one, at least zero. -/
def srcWord (w : F .f32) : BitVec 32 := IntOp.maxsi (IntOp.subi (FloatOps.fptosi 32 w) 1#32) 0#32

/-- The lane of `x`'s row that word names, wrapped round at the row's length so that it is one for any word. -/
def srcLane (w : F .f32) : Fin 12544 := ⟨(srcWord w).toNat % 12544, Nat.mod_lt _ (by decide)⟩

/-- One element of the result, from its position value and the row of `x`: the named lane where the position value
    exceeds one half, else zero. -/
def elt (w : F .f32) (row : Fin 12544 → F .f32) : F .f32 :=
  Scalar.select (FloatOps.cmpf .ogt w (FloatOps.ofBits .f32 0x3F000000#32)) (row (srcLane w)) (FloatOps.ofBits .f32 0x00000000#32)

/-- The whole result array, from `x` and the position array. -/
def outArr (x : Vec F S1536x12544 .f32) (p : Vec F S1536x50176 .f32) : Vec F S1536x50176 .f32 :=
  fun j => elt (p j) fun l => x (ix2 (j 0) l)

/-- Every position value names a lane of the row. -/
def InRange (p : Vec F S1536x50176 .f32) : Prop := ∀ j, (srcWord (p j)).toNat < 12544

theorem k0_pay1_apply (v : Vec F S16 .f32) (l : S16.Idx) : k0_pay1 v l = srcWord (v l) := rfl

theorem k0_pay2_apply (v u : Vec F S16 .f32) (l : S16.Idx) :
    k0_pay2 v u l = Scalar.select (FloatOps.cmpf .ogt (v l) (FloatOps.ofBits .f32 0x3F000000#32)) (u l) (FloatOps.ofBits .f32 0x00000000#32) := rfl

/-! ## The tile's rows and the windows of its copies -/

variable (L : grid0.Coords) (t1 : Fin k0_t1_loop.trips) (t2 : Fin k0_t2_loop.trips)

/-- Row `t1` of `x`, as the tile slices it. -/
abbrev xRow : Memref sig .scVector .hbm S12544 .f32 :=
  ((Memref.whole main_v0_scv : Memref sig .scVector .hbm S1536x12544 .f32).slice
    (Rect.unit (s := S1536x12544) (k0_off1 L t1) S1x12544.size (k0_off1_inb L t1)) (fun _ => rfl)).squeeze S12544 squeezes_S1x12544_S12544

/-- Chunk `t2` of row `t1` of the position array. -/
abbrev pChunk : Memref sig .scVector .hbm S12544 .f32 :=
  ((Memref.whole main_v24_scv : Memref sig .scVector .hbm S1536x50176 .f32).slice
    (Rect.unit (s := S1536x50176) (k0_off2 L t1 t2) S1x12544.size (k0_off2_inb L t1 t2)) (fun _ => rfl)).squeeze S12544 squeezes_S1x12544_S12544

/-- Chunk `t2` of row `t1` of the result. -/
abbrev oChunk : Memref sig .scVector .hbm S12544 .f32 :=
  ((Memref.whole main_v25_scv : Memref sig .scVector .hbm S1536x50176 .f32).slice
    (Rect.unit (s := S1536x50176) (k0_off2 L t1 t2) S1x12544.size (k0_off2_inb L t1 t2)) (fun _ => rfl)).squeeze S12544 squeezes_S1x12544_S12544

/-- The number of the 48-row block a tile works on. -/
def blockNo : ℕ := 2 * (L 1).val + (L 0).val

theorem trips1 : k0_t1_loop.trips = 48 := by decide +kernel
theorem trips2 : k0_t2_loop.trips = 4 := by decide +kernel
theorem trips3 : k0_t3_loop.trips = 784 := by decide +kernel

theorem t1_lt : t1.val < 48 := trips1 ▸ t1.isLt
theorem t2_lt : t2.val < 4 := trips2 ▸ t2.isLt

/-- An index behind a unit leading axis. -/
theorem squeeze_idx (y : S12544.Idx) :
    (Shape.reshapeEquiv squeezes_S1x12544_S12544.numel_eq y : S1x12544.Idx) = Fin.cons ⟨0, Nat.one_pos⟩ y :=
  Shape.reshapeEquiv_cons_one _ _

theorem xRow_emb_0 (y : S12544.Idx) : ((xRow L t1).view.emb y (0 : Fin 2)).val = 48 * blockNo L + t1.val := by
  show (((Rect.unit (s := S1536x12544) (k0_off1 L t1) S1x12544.size (k0_off1_inb L t1)).emb
    (Shape.reshapeEquiv squeezes_S1x12544_S12544.numel_eq y)) (0 : Fin 2)).val = _
  have h := congrFun (k0_off1_eq L t1) (0 : Fin 2)
  rw [squeeze_idx]
  refine (ValueKit.rect_emb_unit_val _ _ _ _ _).trans ?_
  simp only [Matrix.cons_val_zero] at h
  rw [h, blockNo]
  show _ + 0 = _
  omega

theorem xRow_emb_1 (y : S12544.Idx) : ((xRow L t1).view.emb y (1 : Fin 2)).val = (y 0).val := by
  show (((Rect.unit (s := S1536x12544) (k0_off1 L t1) S1x12544.size (k0_off1_inb L t1)).emb
    (Shape.reshapeEquiv squeezes_S1x12544_S12544.numel_eq y)) (1 : Fin 2)).val = _
  have h := congrFun (k0_off1_eq L t1) (1 : Fin 2)
  rw [squeeze_idx]
  refine (ValueKit.rect_emb_unit_val _ _ _ _ _).trans ?_
  simp only [Matrix.cons_val_one, Matrix.cons_val_zero] at h
  rw [h]
  exact Nat.zero_add _

theorem oChunk_emb_0 (y : S12544.Idx) : ((oChunk L t1 t2).view.emb y (0 : Fin 2)).val = 48 * blockNo L + t1.val := by
  show (((Rect.unit (s := S1536x50176) (k0_off2 L t1 t2) S1x12544.size (k0_off2_inb L t1 t2)).emb
    (Shape.reshapeEquiv squeezes_S1x12544_S12544.numel_eq y)) (0 : Fin 2)).val = _
  have h := congrFun (k0_off2_eq L t1 t2) (0 : Fin 2)
  rw [squeeze_idx]
  refine (ValueKit.rect_emb_unit_val _ _ _ _ _).trans ?_
  simp only [Matrix.cons_val_zero] at h
  rw [h, blockNo]
  show _ + 0 = _
  omega

theorem oChunk_emb_1 (y : S12544.Idx) : ((oChunk L t1 t2).view.emb y (1 : Fin 2)).val = 12544 * t2.val + (y 0).val := by
  show (((Rect.unit (s := S1536x50176) (k0_off2 L t1 t2) S1x12544.size (k0_off2_inb L t1 t2)).emb
    (Shape.reshapeEquiv squeezes_S1x12544_S12544.numel_eq y)) (1 : Fin 2)).val = _
  have h := congrFun (k0_off2_eq L t1 t2) (1 : Fin 2)
  rw [squeeze_idx]
  refine (ValueKit.rect_emb_unit_val _ _ _ _ _).trans ?_
  simp only [Matrix.cons_val_one, Matrix.cons_val_zero] at h
  rw [h]
  rfl

/-- The position array's chunk lies where the result's does. -/
theorem pChunk_emb (y : S12544.Idx) : ((pChunk L t1 t2).view.emb y : S1536x50176.Idx) = (oChunk L t1 t2).view.emb y := rfl

/-- The rows of `x` in a tile's block. -/
def tileX : Finset S1536x12544.Idx := Finset.univ.filter fun j => (j 0).val / 48 = blockNo L
/-- The rows of the position array, and of the result, in a tile's block. -/
def tileO : Finset S1536x50176.Idx := Finset.univ.filter fun j => (j 0).val / 48 = blockNo L

theorem xRow_subset : (xRow L t1).view.set ⊆ tileX L := by
  intro j hj
  obtain ⟨y, -, rfl⟩ := Finset.mem_map.mp hj
  have h := xRow_emb_0 L t1 y
  have := t1_lt t1
  refine Finset.mem_filter.mpr ⟨Finset.mem_univ _, ?_⟩
  show ((_ : Fin _).val) / 48 = _
  rw [h]; omega

theorem oChunk_subset : (oChunk L t1 t2).view.set ⊆ tileO L := by
  intro j hj
  obtain ⟨y, -, rfl⟩ := Finset.mem_map.mp hj
  have h := oChunk_emb_0 L t1 t2 y
  have := t1_lt t1
  refine Finset.mem_filter.mpr ⟨Finset.mem_univ _, ?_⟩
  show ((_ : Fin _).val) / 48 = _
  rw [h]; omega

theorem pChunk_subset : (pChunk L t1 t2).view.set ⊆ tileO L := by
  intro j hj
  obtain ⟨y, -, rfl⟩ := Finset.mem_map.mp hj
  exact oChunk_subset L t1 t2 (View.emb_mem_set _ y)

/-- An element of the tile's row `t1` in the columns of chunk `t2` is an element of the chunk. -/
theorem mem_oChunk (j : S1536x50176.Idx) (h0 : (j 0).val = 48 * blockNo L + t1.val) (h1 : (j 1).val / 12544 = t2.val) :
    ∃ y, (oChunk L t1 t2).view.emb y = j := by
  refine ⟨ix1 (⟨(j 1).val % 12544, Nat.mod_lt _ (by decide)⟩ : Fin 12544), funext fun a => Fin.ext ?_⟩
  match a with
  | 0 => exact (oChunk_emb_0 L t1 t2 _).trans h0.symm
  | 1 =>
    refine (oChunk_emb_1 L t1 t2 _).trans ?_
    dsimp only
    omega

/-! ## What the scratch buffers hold -/

/-- The row of `x` in the tile's first scratch. -/
def rowOf (x : Vec F S1536x12544 .f32) : Vec F S12544 .f32 := fun y => x ((xRow L t1).view.emb y)
/-- The chunk of the position array in its second. -/
def chunkOf (p : Vec F S1536x50176 .f32) : Vec F S12544 .f32 := fun y => p ((oChunk L t1 t2).view.emb y)

/-- The chunk of the result, element by element, from the two scratches. -/
theorem outArr_chunk (x : Vec F S1536x12544 .f32) (p : Vec F S1536x50176 .f32) (y : S12544.Idx) :
    outArr x p ((oChunk L t1 t2).view.emb y) = elt (chunkOf L t1 t2 p y) fun l => rowOf L t1 x (ix1 l) := by
  unfold outArr chunkOf rowOf
  congr 1
  funext l
  congr 1
  funext a
  match a with
  | 0 => exact Fin.ext ((oChunk_emb_0 L t1 t2 y).trans (xRow_emb_0 L t1 (ix1 l)).symm)
  | 1 => exact Fin.ext (xRow_emb_1 L t1 (ix1 l)).symm

end Cert.Proof.Unpool

end

end
-- ==== Proof.Setup.lean ====
/-
  The launch's set-up: the SparseCore call's configuration, the resource algebra (the handshakes' rounds beside the
  transfers' counters), a tile's own semaphores and scratch buffers, and the rule for a copy that is waited for at once.
-/
module

public import proofs.«01_k».proof.Defs
public import proofs.«01_k».proof.Proof.Value
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch theorem's facts about the handshake semaphores and the buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds library, the left factor; the transfers' counters are the right one. -/
abbrev EH : Emb UH (MT nD τ sig (HIx 1) (Elt F) ℕ UU ℕ) := embL

/-! ## A tile's own semaphores and scratch buffers -/

section Own

variable (d : Dev nD) (L : grid0.Coords)

abbrev cV : Fin τ.nSC := (L 0).castLE hcore0
abbrev jV : Fin τ.nSub := (L 1).castLE hsub0
/-- The tile's thread. -/
abbrev thr : Thread nD τ := V d (cV L) (jV L)

abbrev cell0 : GSem nD τ sig := (thr d L, .dma cc0_scoped0.sem)
abbrev cell1 : GSem nD τ sig := (thr d L, .dma cc0_scoped1.sem)
abbrev cell2 : GSem nD τ sig := (thr d L, .dma cc0_scoped2.sem)

/-- The three copies' semaphores are among the tile's own at zero: they are them and the rest. -/
theorem ownSems0_V :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

/-- The three scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Own

/-! ## A copy waited for at once -/

section Copy

variable [FloatOps F]

/-- A copy issued and waited for: holding elements that include the source's and, outright, elements that include the
    target's, with the semaphore's counter at zero, the program goes on with the source as it was, the target at the
    source's contents, and the counter at zero again. -/
theorem wp_syncCopy {c : Thread nD τ} {α : Type} {Q : α → sProp 𝕄} {sp sp' : Space} {s : Shape} {e : EltTy}
    {src : Memref sig c.2.kind sp s e} {dst : Memref sig c.2.kind sp' s e} {sem : DmaSem sig}
    {hsrc : src.view.WordExact} {hdst : dst.view.WordExact} {hsem : DmaTarget.Typed (nD := nD) (τ := τ) sp (.dma sem) (.here dst)}
    {hsrc' : src.view.WordExact} {hdst' : dst.view.WordExact} {k : PUnit → Prog (TpuEff nD τ sig (Elt F) Λ₀ c.2) α}
    {q : PosShare TreeShare} {Ss : Finset (Idx (src.view.loc c))} {fs : Buf (Elt F) (src.view.loc c)}
    {Sd : Finset (Idx (dst.view.loc c))} {fd : Buf (Elt F) (dst.view.loc c)} {O : CellTallies nD τ sig (HIx 1)} {W : Waits sig (HIx 1)}
    (hs : 0 < s.numel) (hSs : src.view.set ⊆ Ss) (hSd : dst.view.set ⊆ Sd) :
    iprop((src.view.loc c ↦[Ss]{q} fs) ∗ (dst.view.loc c ↦[Sd]{fullShare} fd) ∗ semVal (c, .dma sem) 0
        ∗ Transfers.MayWaits c (none : HIx 1) O ∗ owes c O W)
      ⊢ iprop((iprop((src.view.loc c ↦[Ss]{q} fs)
            ∗ (dst.view.loc c ↦[Sd]{fullShare} (dst.view.write (Elt F) fd (src.view.read (Elt F) fs) Finset.univ))
            ∗ semVal (c, .dma sem) 0 ∗ owes c O (insert (SemLoc.dma sem, (none : HIx 1)) W))
          -∗ wp frame (wpE (defs₀ (F := F)) 𝒱₀ c none) Set.univ (k ⟨⟩) Q)
        -∗ wp frame (wpE (defs₀ (F := F)) 𝒱₀ c none) Set.univ
            (.op (.enqueueDma src (.here dst) (.dma sem) hsrc hdst hsem) fun _ => .op (.waitDma2 sem src dst hsrc' hdst') k) Q) := by
  iintro ⟨Hs, Hd, Hv, #Hmw, HO⟩ Hk
  ihave Hs' := (pointsTo_split_subset hSs).1 $$ Hs
  icases Hs' with ⟨Hs, Hrest⟩
  iapply (Transfers.wp_dmaLocal (countersEmb (U := UU)) 𝒱₀ c none (none : HIx 1) dst.view.dmaCredit rfl (View.dmaCredit_pos _ hs) hSd) $$ [Hs Hd Hv]
  · isplitl [Hs]; · iexact Hs
    isplitl [Hd] <;> iassumption
  iintro Hf
  iapply (Transfers.wp_waitLocalO (countersEmb (U := UU)) 𝒱₀ c none (none : HIx 1) rfl) $$ [Hf HO]
  · isplitl [Hf]; · iexact Hf
    isplitl [HO]; · iexact HO
    iapply (Transfers.MayWaits.elim (c := c) (ι := (none : HIx 1)) (O := O) (SemLoc.dma sem)); iexact Hmw
  iintro ⟨⟨Hd, Hs⟩, Hv, HO⟩
  iapply Hk
  isplitl [Hs Hrest]
  · iapply (pointsTo_split_subset hSs).2; isplitl [Hs] <;> iassumption
  isplitl [Hd]; · iexact Hd
  isplitl [Hv] <;> iassumption

end Copy

end Cert.Proof.Unpool

end

end
-- ==== Proof.Tile.lean ====
/-
  One tile's task: the three counted loops of the kernel's body, innermost first. Sixteen lanes of a chunk, a chunk of
  a row, a row of the tile's block — each states what its part of the result holds after a trip.
-/
module

public import proofs.«01_k».proof.Proof.Setup

@[expose] public section

noncomputable section

namespace Cert.Proof.Unpool

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the kernel's memrefs, spelt as the body table passes them
local notation "xV" => (Memref.whole Cert.KernelIdeal.main_v0_scv : Memref Cert.KernelIdeal.sig Kind.scVector Space.hbm Cert.KernelIdeal.S1536x12544 EltTy.f32)
local notation "pV" => (Memref.whole Cert.KernelIdeal.main_v24_scv : Memref Cert.KernelIdeal.sig Kind.scVector Space.hbm Cert.KernelIdeal.S1536x50176 EltTy.f32)
local notation "oV" => (Memref.whole Cert.KernelIdeal.main_v25_scv : Memref Cert.KernelIdeal.sig Kind.scVector Space.hbm Cert.KernelIdeal.S1536x50176 EltTy.f32)
local notation "s0" => (Memref.whole Cert.KernelIdeal.cc0_scratch0 : Memref Cert.KernelIdeal.sig Kind.scVector Space.vmem Cert.KernelIdeal.S12544 EltTy.f32)
local notation "s1" => (Memref.whole Cert.KernelIdeal.cc0_scratch1 : Memref Cert.KernelIdeal.sig Kind.scVector Space.vmem Cert.KernelIdeal.S12544 EltTy.f32)
local notation "s2" => (Memref.whole Cert.KernelIdeal.cc0_scratch2 : Memref Cert.KernelIdeal.sig Kind.scVector Space.vmem Cert.KernelIdeal.S12544 EltTy.f32)

variable (d : Dev nD) (L : grid0.Coords)

/-! ## Sixteen lanes -/

/-- The sixteen lanes trip `t3` reads and writes. -/
abbrev lanes3 (t3 : Fin k0_t3_loop.trips) : Rect S12544 := Rect.unit (s := S12544) (k0_off3 t3) S16.size (k0_off3_inb t3)
abbrev lanes4 (t3 : Fin k0_t3_loop.trips) : Rect S12544 := Rect.unit (s := S12544) (k0_off4 t3) S16.size (k0_off4_inb t3)

theorem lanes3_emb (t3 : Fin k0_t3_loop.trips) (l : S16.Idx) : ((lanes3 t3).emb l (0 : Fin 1)).val = 16 * t3.val + (l 0).val := by
  have h := congrFun (k0_off3_eq t3) (0 : Fin 1)
  refine (ValueKit.rect_emb_unit_val _ _ _ _ _).trans ?_
  simp only [Matrix.cons_val_fin_one] at h
  rw [h]

theorem lanes4_emb (t3 : Fin k0_t3_loop.trips) (l : S16.Idx) : ((lanes4 t3).emb l (0 : Fin 1)).val = 16 * t3.val + (l 0).val := by
  have h := congrFun (k0_off4_eq t3) (0 : Fin 1)
  refine (ValueKit.rect_emb_unit_val _ _ _ _ _).trans ?_
  simp only [Matrix.cons_val_fin_one] at h
  rw [h]

theorem lanes_eq (t3 : Fin k0_t3_loop.trips) (l : S16.Idx) : ((lanes3 t3).emb l : S12544.Idx) = (lanes4 t3).emb l :=
  Shape.idx1_ext ((lanes3_emb t3 l).trans (lanes4_emb t3 l).symm)

/-- The sixteen words loaded. -/
abbrev loaded (chunk : Vec F S12544 .f32) (t3 : Fin k0_t3_loop.trips) : Vec F S16 .f32 :=
  (s1).view.readAt (Elt F) (lanes3 t3).toLoadRect chunk

theorem loaded_apply (chunk : Vec F S12544 .f32) (t3 : Fin k0_t3_loop.trips) (l : S16.Idx) :
    loaded chunk t3 l = chunk ((lanes3 t3).emb l) := rfl

/-- The lanes they name are lanes of the row. -/
theorem chk_loaded {chunk : Vec F S12544 .f32} (hr : ∀ y, (srcWord (chunk y)).toNat < 12544) (t3 : Fin k0_t3_loop.trips) :
    k0_chk1 (k0_pay1 (loaded chunk t3)) := by
  intro a x
  obtain rfl : a = 0 := Subsingleton.elim _ _
  exact hr _

/-- What the sixteen lanes written hold, one lane. -/
theorem stored_apply {row chunk : Vec F S12544 .f32} (hr : ∀ y, (srcWord (chunk y)).toNat < 12544) (t3 : Fin k0_t3_loop.trips)
    (h : ∀ a x, ((![k0_pay1 (loaded chunk t3)] : Fin 1 → IVec S16 32) a x).toNat < S12544.size a) (l : S16.Idx) :
    k0_pay2 (loaded chunk t3) (loadIdx ((s0).access (.whole S12544) |>.read (Elt F) row) ![k0_pay1 (loaded chunk t3)] h) l
      = elt (chunk ((lanes3 t3).emb l)) fun n => row (ix1 n) := by
  have hidx : idxAt ![k0_pay1 (loaded chunk t3)] h l = (ix1 (srcLane (chunk ((lanes3 t3).emb l))) : S12544.Idx) := by
    refine Shape.idx1_ext ?_
    show (srcWord (chunk ((lanes3 t3).emb l))).toNat = _ % 12544
    exact (Nat.mod_eq_of_lt (hr _)).symm
  rw [show View.read (Elt F) ((s0).access (Rect.whole S12544)) row = row from Memref.read_access_whole (Elt F) cc0_scratch0 row]
  rw [k0_pay2_apply]
  unfold elt
  show Scalar.select _ (row (idxAt ![k0_pay1 (loaded chunk t3)] h l)) _ = _
  rw [hidx]
  rfl

set_option maxHeartbeats 1000000 in
/-- One trip of the inner loop: from the first `16 * t3` elements of the third scratch at `g` to the first `16 * (t3 + 1)`. -/
theorem t3_trip (row chunk g : Vec F S12544 .f32) (hr : ∀ y, (srcWord (chunk y)).toNat < 12544)
    (hg : ∀ y, g y = elt (chunk y) fun n => row (ix1 n)) (t3 : Fin k0_t3_loop.trips) (u : Unit) (f : Vec F S12544 .f32)
    (hf : ∀ y : S12544.Idx, (y 0).val < 16 * t3.val → f y = g y) :
    (iprop(((s0).view.loc (thr d L) ↦{fullShare} row) ∗ ((s1).view.loc (thr d L) ↦{fullShare} chunk) ∗ ((s2).view.loc (thr d L) ↦{fullShare} f)) : sProp 𝕄)
      ⊢ wp (M := 𝕄) frame (wpE (defs₀ (F := F)) 𝒱₀ (thr d L) none) Set.univ
          (k0_t3_body L xV (Memref.isWhole_whole _) pV (Memref.isWhole_whole _) oV (Memref.isWhole_whole _)
            s0 (Memref.isWhole_whole _) s1 (Memref.isWhole_whole _) s2 (Memref.isWhole_whole _) cc0_scoped0 cc0_scoped1 cc0_scoped2 t3 u)
          fun _ => iprop(((s0).view.loc (thr d L) ↦{fullShare} row) ∗ ((s1).view.loc (thr d L) ↦{fullShare} chunk)
            ∗ ∃ f' : Vec F S12544 .f32, ⌜∀ y : S12544.Idx, (y 0).val < 16 * (t3.val + 1) → f' y = g y⌝ ∗ (s2).view.loc (thr d L) ↦{fullShare} f') := by
  unfold k0_t3_body
  simp only [Prog.lift, Prog.bind_op, Prog.bind_ret, Prog.pure_eq_ret]
  iintro ⟨H0, H1, H2⟩
  iapply (wp_load 𝒱₀ (thr d L) none Set.univ (m := s1) (S := Finset.univ) (Finset.subset_univ _)) $$ H1; iintro H1
  rw [wp_assume_of _ _ _ _ (chk_loaded hr t3)]
  iapply (SparseCore.wp_vectorLoadIdx 𝒱₀ (thr d L) none Set.univ (base := s0) (S := Finset.univ) (q := fullShare) (Finset.subset_univ _)) $$ H0; iintro H0
  iapply (wp_load 𝒱₀ (thr d L) none Set.univ (m := s2) (S := Finset.univ) (Finset.subset_univ _)) $$ H2; iintro H2
  iapply (wp_store 𝒱₀ (thr d L) none Set.univ (m := s2) (r := lanes4 t3) (Mk := Finset.univ) (S := Finset.univ) (Finset.subset_univ _)) $$ H2; iintro H2
  rw [wp_ret]
  imodintro
  isplitl [H0]; · iexact H0
  isplitl [H1]; · iexact H1
  iexists _
  isplitr; swap; · iexact H2
  ipureintro
  intro y hy
  by_cases hlt : (y 0).val < 16 * t3.val
  · refine (View.write_of_not_mem _ _ _ ?_).trans (hf y hlt)
    intro hm
    obtain ⟨l, -, hl⟩ := Finset.mem_map.mp hm
    have := lanes4_emb t3 l
    have h2 : ((lanes4 t3).emb l (0 : Fin 1)).val = (y 0).val := congrArg (fun z : S12544.Idx => (z 0).val) hl
    omega
  · have hl : ((s2).access (lanes4 t3)).emb (ix1 (⟨(y 0).val - 16 * t3.val, by omega⟩ : Fin 16)) = y := by
      refine Shape.idx1_ext ((lanes4_emb t3 _).trans ?_)
      show 16 * t3.val + ((y 0).val - 16 * t3.val) = _
      omega
    rw [← hl]
    refine (View.write_emb_of_mem _ _ (Finset.mem_univ _)).trans ?_
    refine Eq.trans (cast_eq _ _) ((stored_apply hr t3 _ _).trans ?_)
    rw [lanes_eq]
    exact (hg _).symm

/-! ## A chunk of a row -/

/-- The result as far as it is done in the tile's block: its first `k1` rows, and the first `k2` chunks of row `k1`. -/
def Done (x : Vec F S1536x12544 .f32) (p : Vec F S1536x50176 .f32) (k1 k2 : ℕ) (g : Vec F S1536x50176 .f32) : Prop :=
  ∀ j : S1536x50176.Idx, (j 0).val / 48 = blockNo L → ((j 0).val % 48 < k1 ∨ ((j 0).val % 48 = k1 ∧ (j 1).val < 12544 * k2)) → g j = outArr x p j

theorem Done.zero (x : Vec F S1536x12544 .f32) (p g : Vec F S1536x50176 .f32) : Done L x p 0 0 g := by
  intro j _ h; omega

/-- Four chunks are a row. -/
theorem Done.row {x : Vec F S1536x12544 .f32} {p g : Vec F S1536x50176 .f32} {k1 : ℕ} (h : Done L x p k1 4 g) : Done L x p (k1 + 1) 0 g := by
  intro j hj hk
  have := (j 1).isLt
  refine h j hj ?_
  change (j 1).val < 50176 at this
  omega

/-- Writing a chunk of the result does the chunk. -/
theorem Done.chunk {x : Vec F S1536x12544 .f32} {p g : Vec F S1536x50176 .f32} (t1 : Fin k0_t1_loop.trips) (t2 : Fin k0_t2_loop.trips)
    {w : Vec F S12544 .f32} (hw : ∀ y, w y = outArr x p ((oChunk L t1 t2).view.emb y)) (h : Done L x p t1.val t2.val g) :
    Done L x p t1.val (t2.val + 1) ((oChunk L t1 t2).view.write (Elt F) g w Finset.univ) := by
  intro j hj hk
  have h1 := t1_lt t1
  by_cases hm : (j 0).val = 48 * blockNo L + t1.val ∧ (j 1).val / 12544 = t2.val
  · obtain ⟨y, rfl⟩ := mem_oChunk L t1 t2 j hm.1 hm.2
    exact (View.write_emb_of_mem _ _ (Finset.mem_univ _)).trans ((cast_eq _ _).trans (hw y))
  · refine (View.write_of_not_mem _ _ _ ?_).trans (h j hj ?_)
    · intro hmem
      obtain ⟨y, -, rfl⟩ := Finset.mem_map.mp hmem
      refine hm ⟨oChunk_emb_0 L t1 t2 y, ?_⟩
      have := oChunk_emb_1 L t1 t2 y
      have hy : (y 0).val < 12544 := (y 0).isLt
      show ((_ : Fin _).val) / 12544 = _
      rw [this]; omega
    · omega

/-- A further wait at no call's index leaves the recorded waits as they may be. -/
theorem waits_insert {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with hp | hp
  · exact .inr (hp ▸ rfl)
  · exact h p hp

/-- What the tile owes and has waited for. -/
abbrev owed (O : CellTallies nD τ sig (HIx 1)) (W : Waits sig (HIx 1)) : sProp 𝕄 :=
  iprop(∃ W', ⌜∀ p ∈ W', p ∈ W ∨ p.2 = none⌝ ∗ owes (thr d L) O W')

/-- The inner loop's invariant. -/
def inv3 (row chunk g : Vec F S12544 .f32) (n : ℕ) (_ : Unit) : sProp 𝕄 :=
  iprop(((s0).view.loc (thr d L) ↦{fullShare} row) ∗ ((s1).view.loc (thr d L) ↦{fullShare} chunk)
    ∗ ∃ f : Vec F S12544 .f32, ⌜∀ y : S12544.Idx, (y 0).val < 16 * n → f y = g y⌝ ∗ (s2).view.loc (thr d L) ↦{fullShare} f)

/-- The middle loop's invariant: the row of `x` in the first scratch, the first `n` chunks of the row done. -/
def inv2 (x : Vec F S1536x12544 .f32) (p : Vec F S1536x50176 .f32) (t1 : Fin k0_t1_loop.trips) (O : CellTallies nD τ sig (HIx 1)) (W : Waits sig (HIx 1))
    (n : ℕ) (_ : Unit) : sProp 𝕄 :=
  iprop(Transfers.MayWaits (thr d L) (none : HIx 1) O
    ∗ ((s0).view.loc (thr d L) ↦{fullShare} (rowOf L t1 x))
    ∗ (∃ f : Vec F S12544 .f32, (s1).view.loc (thr d L) ↦{fullShare} f)
    ∗ (∃ f : Vec F S12544 .f32, (s2).view.loc (thr d L) ↦{fullShare} f)
    ∗ ((pV).view.loc (thr d L) ↦[tileO L]{fullShare} p)
    ∗ (∃ g : Vec F S1536x50176 .f32, ⌜Done L x p t1.val n g⌝ ∗ (oV).view.loc (thr d L) ↦[tileO L]{fullShare} g)
    ∗ semVal (cell1 d L) 0 ∗ semVal (cell2 d L) 0 ∗ owed d L O W)

set_option maxHeartbeats 2000000 in
/-- One trip of the middle loop: a chunk of the position array fetched, the chunk of the result computed lane by lane
    and written out. -/
theorem t2_trip (x : Vec F S1536x12544 .f32) (p : Vec F S1536x50176 .f32) (hp : InRange p) (t1 : Fin k0_t1_loop.trips) (O : CellTallies nD τ sig (HIx 1))
    (W : Waits sig (HIx 1)) (t2 : Fin k0_t2_loop.trips) (u : Unit) :
    inv2 d L x p t1 O W t2.val u
      ⊢ wp (M := 𝕄) frame (wpE (defs₀ (F := F)) 𝒱₀ (thr d L) none) Set.univ
          (k0_t2_body L xV (Memref.isWhole_whole _) pV (Memref.isWhole_whole _) oV (Memref.isWhole_whole _)
            s0 (Memref.isWhole_whole _) s1 (Memref.isWhole_whole _) s2 (Memref.isWhole_whole _) cc0_scoped0 cc0_scoped1 cc0_scoped2 t1 t2 u)
          fun u => inv2 d L x p t1 O W (t2.val + 1) u := by
  unfold k0_t2_body
  simp only [Prog.lift, Prog.bind_op, Prog.bind_ret, Prog.pure_eq_ret]
  unfold inv2
  iintro ⟨#Hmw, H0, ⟨%f1, H1⟩, ⟨%f2, H2⟩, Hp, ⟨%g, %hg, Ho⟩, Hc1, Hc2, %W', %hW', HO⟩
  iapply (wp_syncCopy (c := thr d L) (src := pChunk L t1 t2) (dst := s1) (Ss := tileO L) (Sd := Finset.univ) (q := fullShare) (fs := p) (fd := f1)
    (show 0 < S12544.numel by decide) (pChunk_subset L t1 t2) (Finset.subset_univ _)) $$ [H1 Hp Hc1 HO]
  · isplitl [Hp]; · iexact Hp
    isplitl [H1]; · iexact H1
    isplitl [Hc1]; · iexact Hc1
    isplitr; · iexact Hmw
    iexact HO
  iintro ⟨Hp, H1, Hc1, HO⟩
  have hcopy : (s1).view.write (Elt F) f1 ((pChunk L t1 t2).view.read (Elt F) p) Finset.univ = chunkOf L t1 t2 p :=
    View.write_whole_univ _ _ _
  rw [hcopy]
  have hg3 : ∀ y, outArr x p ((oChunk L t1 t2).view.emb y) = elt (chunkOf L t1 t2 p y) fun n => rowOf L t1 x (ix1 n) := outArr_chunk L t1 t2 x p
  sl_for (inv3 d L (rowOf L t1 x) (chunkOf L t1 t2 p) (fun y => outArr x p ((oChunk L t1 t2).view.emb y))) $$ [H0 H1 H2]
  case region =>
    intro t3 u
    unfold inv3
    iintro ⟨H0, H1, %f, %hf, H2⟩
    iapply (t3_trip d L (rowOf L t1 x) (chunkOf L t1 t2 p) _ (fun y => hp _) hg3 t3 u f hf)
    isplitl [H0]; · iexact H0
    isplitl [H1] <;> iassumption
  · unfold inv3
    isplitl [H0]; · iexact H0
    isplitl [H1]; · iexact H1
    iexists f2
    isplitr; · ipureintro; intro y hy; omega
    iexact H2
  iintro %_ HI
  unfold inv3
  icases HI with ⟨H0, H1, %f, %hf, H2⟩
  have hf' : ∀ y : S12544.Idx, f y = outArr x p ((oChunk L t1 t2).view.emb y) := fun y => hf y (by
    have hy : (y 0).val < 12544 := (y 0).isLt
    have ht := trips3
    change (y 0).val < 16 * k0_t3_loop.trips
    omega)
  iapply (wp_syncCopy (c := thr d L) (src := s2) (dst := oChunk L t1 t2) (Ss := Finset.univ) (Sd := tileO L) (q := fullShare) (fs := f) (fd := g)
    (show 0 < S12544.numel by decide) (Finset.subset_univ _) (oChunk_subset L t1 t2)) $$ [H2 Ho Hc2 HO]
  · isplitl [H2]; · iexact H2
    isplitl [Ho]; · iexact Ho
    isplitl [Hc2]; · iexact Hc2
    isplitr; · iexact Hmw
    iexact HO
  iintro ⟨H2, Ho, Hc2, HO⟩
  rw [wp_ret]
  imodintro
  isplitr; · iexact Hmw
  isplitl [H0]; · iexact H0
  isplitl [H1]; · iexists _; iexact H1
  isplitl [H2]; · iexists _; iexact H2
  isplitl [Hp]; · iexact Hp
  isplitl [Ho]
  · iexists _
    isplitr; swap; · iexact Ho
    ipureintro
    exact Done.chunk L t1 t2 hf' hg
  isplitl [Hc1]; · iexact Hc1
  isplitl [Hc2]; · iexact Hc2
  iexists _
  isplitr; swap; · iexact HO
  ipureintro
  exact waits_insert (waits_insert hW' _) _

/-! ## A row of the block, and the block -/

/-- The outer loop's invariant: the first `n` rows of the block done. -/
def inv1 (x : Vec F S1536x12544 .f32) (p : Vec F S1536x50176 .f32) (O : CellTallies nD τ sig (HIx 1)) (W : Waits sig (HIx 1))
    (n : ℕ) (_ : Unit) : sProp 𝕄 :=
  iprop(Transfers.MayWaits (thr d L) (none : HIx 1) O
    ∗ (∃ f : Vec F S12544 .f32, (s0).view.loc (thr d L) ↦{fullShare} f)
    ∗ (∃ f : Vec F S12544 .f32, (s1).view.loc (thr d L) ↦{fullShare} f)
    ∗ (∃ f : Vec F S12544 .f32, (s2).view.loc (thr d L) ↦{fullShare} f)
    ∗ ((xV).view.loc (thr d L) ↦[tileX L]{fullShare} x)
    ∗ ((pV).view.loc (thr d L) ↦[tileO L]{fullShare} p)
    ∗ (∃ g : Vec F S1536x50176 .f32, ⌜Done L x p n 0 g⌝ ∗ (oV).view.loc (thr d L) ↦[tileO L]{fullShare} g)
    ∗ semVal (cell0 d L) 0 ∗ semVal (cell1 d L) 0 ∗ semVal (cell2 d L) 0 ∗ owed d L O W)

set_option maxHeartbeats 2000000 in
/-- One trip of the outer loop: a row of `x` fetched, the row of the result done chunk by chunk. -/
theorem t1_trip (x : Vec F S1536x12544 .f32) (p : Vec F S1536x50176 .f32) (hp : InRange p) (O : CellTallies nD τ sig (HIx 1))
    (W : Waits sig (HIx 1)) (t1 : Fin k0_t1_loop.trips) (u : Unit) :
    inv1 d L x p O W t1.val u
      ⊢ wp (M := 𝕄) frame (wpE (defs₀ (F := F)) 𝒱₀ (thr d L) none) Set.univ
          (k0_t1_body L xV (Memref.isWhole_whole _) pV (Memref.isWhole_whole _) oV (Memref.isWhole_whole _)
            s0 (Memref.isWhole_whole _) s1 (Memref.isWhole_whole _) s2 (Memref.isWhole_whole _) cc0_scoped0 cc0_scoped1 cc0_scoped2 t1 u)
          fun u => inv1 d L x p O W (t1.val + 1) u := by
  unfold k0_t1_body
  simp only [Prog.lift, Prog.bind_op, Prog.bind_ret, Prog.pure_eq_ret]
  unfold inv1
  iintro ⟨#Hmw, ⟨%f0, H0⟩, H1, H2, Hx, Hp, ⟨%g, %hg, Ho⟩, Hc0, Hc1, Hc2, %W', %hW', HO⟩
  iapply (wp_syncCopy (c := thr d L) (src := xRow L t1) (dst := s0) (Ss := tileX L) (Sd := Finset.univ) (q := fullShare) (fs := x) (fd := f0)
    (show 0 < S12544.numel by decide) (xRow_subset L t1) (Finset.subset_univ _)) $$ [H0 Hx Hc0 HO]
  · isplitl [Hx]; · iexact Hx
    isplitl [H0]; · iexact H0
    isplitl [Hc0]; · iexact Hc0
    isplitr; · iexact Hmw
    iexact HO
  iintro ⟨Hx, H0, Hc0, HO⟩
  have hcopy : (s0).view.write (Elt F) f0 ((xRow L t1).view.read (Elt F) x) Finset.univ = rowOf L t1 x :=
    View.write_whole_univ _ _ _
  rw [hcopy]
  sl_for (inv2 d L x p t1 O W) $$ [H0 H1 H2 Hp Ho Hc1 Hc2 HO]
  case region => intro t2 u; exact t2_trip d L x p hp t1 O W t2 u
  · unfold inv2
    isplitr; · iexact Hmw
    isplitl [H0]; · iexact H0
    isplitl [H1]; · iexact H1
    isplitl [H2]; · iexact H2
    isplitl [Hp]; · iexact Hp
    isplitl [Ho]; · iexists g; isplitr; · ipureintro; exact hg
                    iexact Ho
    isplitl [Hc1]; · iexact Hc1
    isplitl [Hc2]; · iexact Hc2
    iexists _
    isplitr; swap; · iexact HO
    ipureintro
    exact waits_insert hW' _
  iintro %_ HI
  rw [show Scf.trips k0_t2_loop.lb k0_t2_loop.ub k0_t2_loop.st = 4 from trips2]
  unfold inv2
  icases HI with ⟨-, H0, H1, H2, Hp, ⟨%g', %hg', Ho⟩, Hc1, Hc2, HO⟩
  sl_step
  isplitr; · iexact Hmw
  isplitl [H0]; · iexists _; iexact H0
  isplitl [H1]; · iexact H1
  isplitl [H2]; · iexact H2
  isplitl [Hx]; · iexact Hx
  isplitl [Hp]; · iexact Hp
  isplitl [Ho]; · iexists g'; isplitr; · ipureintro; exact Done.row L hg'
                  iexact Ho
  isplitl [Hc0]; · iexact Hc0
  isplitl [Hc1]; · iexact Hc1
  isplitl [Hc2]; · iexact Hc2
  iexact HO

/-- `x`, the position array and the result, as the device's arrays. -/
abbrev xLoc (d : Dev nD) : Loc nD τ sig := (SparseCore.T d).loc main_v0
abbrev pLoc (d : Dev nD) : Loc nD τ sig := (SparseCore.T d).loc main_v24
abbrev oLoc (d : Dev nD) : Loc nD τ sig := (SparseCore.T d).loc main_v25

/-- What a tile is handed: its block of `x`, of the position array and of the result, the last at any contents `f`. -/
abbrev goT (d : Dev nD) (L : grid0.Coords) (x : Vec F S1536x12544 .f32) (p f : Vec F S1536x50176 .f32) : sProp 𝕄 :=
  iprop((xLoc d ↦[tileX L]{fullShare} x) ∗ (pLoc d ↦[tileO L]{fullShare} p) ∗ (oLoc d ↦[tileO L]{fullShare} f))

set_option maxHeartbeats 2000000 in
/-- The task on vector subcore `(L 0, L 1)` of device `d`: handed its block of the three arrays, it brings them back with
    the result's block done. -/
theorem tile_body (hF : (K (F := F)).Facts) (x : Vec F S1536x12544 .f32) (p f : Vec F S1536x50176 .f32) (hp : InRange p)
    (O : CellTallies nD τ sig (HIx 1)) (W : Waits sig (HIx 1)) (hO : ∀ g, O g none = 0) :
    iprop(levAts (K (F := F)).L (K (F := F)).lev ∗ emp ∗ goT d L x p f
        ∗ scopedBufs (thr d L) ∗ scopedSems0 (thr d L) ∗ owes (thr d L) O W)
      ⊢ wp (M := 𝕄) frame (wpE (defs₀ (F := F)) 𝒱₀ (thr d L) none) Set.univ
          (cc0__unpool_sc L xV (Memref.isWhole_whole _) pV (Memref.isWhole_whole _) oV (Memref.isWhole_whole _)
            s0 (Memref.isWhole_whole _) s1 (Memref.isWhole_whole _) s2 (Memref.isWhole_whole _) cc0_scoped0 cc0_scoped1 cc0_scoped2)
          fun _ => iprop(goT d L x p (outArr x p) ∗ scopedBufs (thr d L) ∗ scopedSems0 (thr d L)
            ∗ ∃ W', ⌜∀ p ∈ W', p ∈ W ∨ p.2 = none⌝ ∗ owes (thr d L) O W') := by
  simp only [cc0__unpool_sc_eq_skeleton]; unfold cc0__unpool_sc_skel
  rw [(K (F := F)).scopedBufs_V hF d (cV L) (jV L), SparseCore.Cfg.scopedSems0_V (Val := Elt F) d (cV L) (jV L), ownSems0_V, ownBufs_V]
  iintro ⟨#Hlv, -, ⟨Hx, Hp, Ho⟩, ⟨H0, H1, H2, Hbufs⟩, ⟨Hc0, Hc1, Hc2, Hsems⟩, HO⟩
  ihave Hmw := (show levAts (K (F := F)).L (K (F := F)).lev ⊢ Transfers.MayWaits (thr d L) (none : HIx 1) O from
    (K (F := F)).mayWaits_none (thr := thr d L) hO) $$ Hlv
  sl_for (inv1 d L x p O W) $$ [Hmw H0 H1 H2 Hx Hp Ho Hc0 Hc1 Hc2 HO]
  case region => intro t1 u; exact t1_trip d L x p hp O W t1 u
  · unfold inv1
    isplitl [Hmw]; · iexact Hmw
    isplitl [H0]; · iexact H0
    isplitl [H1]; · iexact H1
    isplitl [H2]; · iexact H2
    isplitl [Hx]; · iexact Hx
    isplitl [Hp]; · iexact Hp
    isplitl [Ho]; · iexists f; isplitr; · ipureintro; exact Done.zero L x p f
                    iexact Ho
    isplitl [Hc0]; · iexact Hc0
    isplitl [Hc1]; · iexact Hc1
    isplitl [Hc2]; · iexact Hc2
    iexists W
    isplitr; · ipureintro; exact fun p hp => .inl hp
    iexact HO
  iintro %_ HI
  rw [show Scf.trips k0_t1_loop.lb k0_t1_loop.ub k0_t1_loop.st = 48 from trips1]
  unfold inv1
  icases HI with ⟨-, H0, H1, H2, Hx, Hp, ⟨%g, %hg, Ho⟩, Hc0, Hc1, Hc2, HO⟩
  have hdone : ((oV).view.loc (thr d L) ↦[tileO L]{fullShare} g : sProp 𝕄) = (oLoc d ↦[tileO L]{fullShare} (outArr x p)) :=
    pointsTo_congr fun j hj => hg j (Finset.mem_filter.mp hj).2 (by omega)
  sl_step
  isplitl [Hx Hp Ho]
  · isplitl [Hx]; · iexact Hx
    isplitl [Hp]; · iexact Hp
    iapply (Entails.of_eq hdone); iexact Ho
  isplitl [H0 H1 H2 Hbufs]
  · isplitl [H0]; · iexact H0
    isplitl [H1]; · iexact H1
    isplitl [H2]; · iexact H2
    iexact Hbufs
  isplitl [Hc0 Hc1 Hc2 Hsems]
  · isplitl [Hc0]; · iexact Hc0
    isplitl [Hc1]; · iexact Hc1
    isplitl [Hc2]; · iexact Hc2
    iexact Hsems
  iexact HO

end Cert.Proof.Unpool

end

end
-- ==== Proof.Host.lean ====
/-
  The operations @main runs before the call: the list, the arrays the call is given, and the array of positions as a
  term over the index argument.
-/
module

public import proofs.«01_k».proof.Proof.Setup
public import Idealize.ShloMosaic.Lib.Claim

@[expose] public section

noncomputable section

namespace Cert.Proof.Unpool

open Cert.KernelIdeal Cert.KernelIdeal.Gen

open Idealize.ShloMosaic
open Idealize.SL Idealize.SL.Sem

variable {F : FTy → Type} [FloatOps F]

/-- @main's operations before the call, in order. -/
def opsA : List (HloOp τ sig (Elt F)) := [
  StableHlo.reshape main_arg0 main_v0 (rfl : (.f32 : EltTy) = .f32) shapeCasts_S8x192x112x112_S1536x12544,
  StableHlo.reshape main_arg1 main_v1 (rfl : (.i32 : EltTy) = .i32) shapeCasts_S8x192x112x112_S1536x12544,
  StableHlo.nullary main_v2 (iotaInDim S1536 32 0),
  StableHlo.unary main_v2 main_v3 (broadcastInDim S1536x1 ![0] bcast_S1536_S1536x1_0 : (⟨S1536, .i32⟩ : BufTy).Contents (Elt F) → (⟨S1536x1, .i32⟩ : BufTy).Contents (Elt F)),
  StableHlo.nullary main_v4 (sitofp .f32 (iotaInDim S12544 32 0)),
  StableHlo.nullary main_cst (constant S_ .f32 0x3F800000#32),
  StableHlo.unary main_cst main_v5 (broadcastInDim S12544 ![] bcast_S_S12544 : (⟨S_, .f32⟩ : BufTy).Contents (Elt F) → (⟨S12544, .f32⟩ : BufTy).Contents (Elt F)),
  StableHlo.binary main_v5 main_v4 main_v6 (addf : (⟨S12544, .f32⟩ : BufTy).Contents (Elt F) → (⟨S12544, .f32⟩ : BufTy).Contents (Elt F) → (⟨S12544, .f32⟩ : BufTy).Contents (Elt F)),
  StableHlo.unary main_v6 main_v7 (broadcastInDim S1x12544 ![1] bcast_S12544_S1x12544_1 : (⟨S12544, .f32⟩ : BufTy).Contents (Elt F) → (⟨S1x12544, .f32⟩ : BufTy).Contents (Elt F)),
  StableHlo.unary main_v7 main_v8 (broadcastInDim S1536x12544 ![0, 1] bcast_S1x12544_S1536x12544_0_1 : (⟨S1x12544, .f32⟩ : BufTy).Contents (Elt F) → (⟨S1536x12544, .f32⟩ : BufTy).Contents (Elt F)),
  StableHlo.nullary main_cst_0 (constant S_ .f32 0x00000000#32),
  StableHlo.unary main_cst_0 main_v9 (broadcastInDim S1536x50176 ![] bcast_S_S1536x50176 : (⟨S_, .f32⟩ : BufTy).Contents (Elt F) → (⟨S1536x50176, .f32⟩ : BufTy).Contents (Elt F)),
  StableHlo.nullary main_c (constantI S_ 32 0#32),
  StableHlo.unary main_c main_v10 (broadcastInDim S1536x1 ![] bcast_S_S1536x1 : (⟨S_, .i32⟩ : BufTy).Contents (Elt F) → (⟨S1536x1, .i32⟩ : BufTy).Contents (Elt F)),
  StableHlo.binary main_v3 main_v10 main_v11 (cmpi .slt : (⟨S1536x1, .i32⟩ : BufTy).Contents (Elt F) → (⟨S1536x1, .i32⟩ : BufTy).Contents (Elt F) → (⟨S1536x1, .i1⟩ : BufTy).Contents (Elt F)),
  StableHlo.nullary main_c_1 (constantI S_ 32 1536#32),
  StableHlo.unary main_c_1 main_v12 (broadcastInDim S1536x1 ![] bcast_S_S1536x1 : (⟨S_, .i32⟩ : BufTy).Contents (Elt F) → (⟨S1536x1, .i32⟩ : BufTy).Contents (Elt F)),
  StableHlo.binary main_v3 main_v12 main_v13 (addi : (⟨S1536x1, .i32⟩ : BufTy).Contents (Elt F) → (⟨S1536x1, .i32⟩ : BufTy).Contents (Elt F) → (⟨S1536x1, .i32⟩ : BufTy).Contents (Elt F)),
  StableHlo.ternary main_v11 main_v13 main_v3 main_v14 (select : (⟨S1536x1, .i1⟩ : BufTy).Contents (Elt F) → (⟨S1536x1, .i32⟩ : BufTy).Contents (Elt F) → (⟨S1536x1, .i32⟩ : BufTy).Contents (Elt F) → (⟨S1536x1, .i32⟩ : BufTy).Contents (Elt F)),
  StableHlo.nullary main_c_2 (constantI S_ 32 0#32),
  StableHlo.unary main_c_2 main_v15 (broadcastInDim S1536x12544 ![] bcast_S_S1536x12544 : (⟨S_, .i32⟩ : BufTy).Contents (Elt F) → (⟨S1536x12544, .i32⟩ : BufTy).Contents (Elt F)),
  StableHlo.binary main_v1 main_v15 main_v16 (cmpi .slt : (⟨S1536x12544, .i32⟩ : BufTy).Contents (Elt F) → (⟨S1536x12544, .i32⟩ : BufTy).Contents (Elt F) → (⟨S1536x12544, .i1⟩ : BufTy).Contents (Elt F)),
  StableHlo.nullary main_c_3 (constantI S_ 32 50176#32),
  StableHlo.unary main_c_3 main_v17 (broadcastInDim S1536x12544 ![] bcast_S_S1536x12544 : (⟨S_, .i32⟩ : BufTy).Contents (Elt F) → (⟨S1536x12544, .i32⟩ : BufTy).Contents (Elt F)),
  StableHlo.binary main_v1 main_v17 main_v18 (addi : (⟨S1536x12544, .i32⟩ : BufTy).Contents (Elt F) → (⟨S1536x12544, .i32⟩ : BufTy).Contents (Elt F) → (⟨S1536x12544, .i32⟩ : BufTy).Contents (Elt F)),
  StableHlo.ternary main_v16 main_v18 main_v1 main_v19 (select : (⟨S1536x12544, .i1⟩ : BufTy).Contents (Elt F) → (⟨S1536x12544, .i32⟩ : BufTy).Contents (Elt F) → (⟨S1536x12544, .i32⟩ : BufTy).Contents (Elt F) → (⟨S1536x12544, .i32⟩ : BufTy).Contents (Elt F)),
  StableHlo.unary main_v14 main_v20 (broadcastInDim S1536x12544 ![0, 1] bcast_S1536x1_S1536x12544_0_1 : (⟨S1536x1, .i32⟩ : BufTy).Contents (Elt F) → (⟨S1536x12544, .i32⟩ : BufTy).Contents (Elt F)),
  StableHlo.unary main_v20 main_v21 (broadcastInDim S1536x12544x1 ![0, 1] bcast_S1536x12544_S1536x12544x1_0_1 : (⟨S1536x12544, .i32⟩ : BufTy).Contents (Elt F) → (⟨S1536x12544x1, .i32⟩ : BufTy).Contents (Elt F)),
  StableHlo.unary main_v19 main_v22 (broadcastInDim S1536x12544x1 ![0, 1] bcast_S1536x12544_S1536x12544x1_0_1 : (⟨S1536x12544, .i32⟩ : BufTy).Contents (Elt F) → (⟨S1536x12544x1, .i32⟩ : BufTy).Contents (Elt F)),
  StableHlo.binary main_v21 main_v22 main_v23 ((fun a b => concatenate S1536x12544x2 2 [⟨S1536x12544x1, a⟩, ⟨S1536x12544x1, b⟩] concatenates_S1536x12544x1_S1536x12544x1_S1536x12544x2_d2) : (⟨S1536x12544x1, .i32⟩ : BufTy).Contents (Elt F) → (⟨S1536x12544x1, .i32⟩ : BufTy).Contents (Elt F) → (⟨S1536x12544x2, .i32⟩ : BufTy).Contents (Elt F)),
  StableHlo.ternary main_v9 main_v23 main_v8 main_v24 ((fun x i u => Host.scatter scatter_S1536x50176_S1536x12544x2_S1536x12544_n_01_01_2 (fun _ b => b) x i u) : (⟨S1536x50176, .f32⟩ : BufTy).Contents (Elt F) → (⟨S1536x12544x2, .i32⟩ : BufTy).Contents (Elt F) → (⟨S1536x12544, .f32⟩ : BufTy).Contents (Elt F) → (⟨S1536x50176, .f32⟩ : BufTy).Contents (Elt F))]

/-- The operation after it. -/
abbrev opB : HloOp τ sig (Elt F) := StableHlo.reshape main_v25 main_v26 (rfl : (.f32 : EltTy) = .f32) shapeCasts_S1536x50176_S8x192x224x224

/-- What @main does from the call on. -/
def tailM (d : Dev nD) : Prog (TpuEff nD τ sig (Elt F) (SparseCore.Sig (Pipeline.Sig Λ₀ (Fin 0) fun p => (pcfgs (F := F) p).Adm) 1) .tc) PUnit := do
  sc.run d 0
  hlo rfl opB (fun _ => .ret ⟨⟩)
  pure ⟨⟩

/-- @main is the operations, then the call. -/
theorem main_eq (d : Dev nD) : main (F := F) d = StableHlo.seqK opsA (tailM d) := rfl

/-- Each operation works on the TensorCore's own arrays. -/
theorem opsA_sub : ∀ op ∈ (opsA : List (HloOp τ sig (Elt F))), op.bufs ⊆ StableHlo.tcRefs τ sig := by
  unfold opsA
  simp

theorem opsA_fresh : ∀ op ∈ (opsA : List (HloOp τ sig (Elt F))), op.fresh = ∅ := by
  intro _ h; (repeat (cases h with | head => rfl | tail _ h => ?_)); exact nomatch h

/-! ## The arrays, as terms over the arguments -/

/-- `x` as @main hands it to the kernel: the argument's planes, one a row. -/
def xArr (a0 : Vec F S8x192x112x112 .f32) : Vec F S1536x12544 .f32 := shapeCast S1536x12544 a0 shapeCasts_S8x192x112x112_S1536x12544

/-- The index argument, one plane a row. -/
def iArr (a1 : IVec S8x192x112x112 32) : IVec S1536x12544 32 := shapeCast S1536x12544 a1 shapeCasts_S8x192x112x112_S1536x12544

/-- Each lane's number counted from one, as a float. -/
def codes : Vec F S1536x12544 .f32 :=
  broadcastInDim S1536x12544 ![0, 1] bcast_S1x12544_S1536x12544_0_1
    (broadcastInDim S1x12544 ![1] bcast_S12544_S1x12544_1
      (addf (broadcastInDim S12544 ![] bcast_S_S12544 (constant S_ .f32 0x3F800000#32)) (sitofp .f32 (iotaInDim S12544 32 0))))

/-- The row numbers. -/
def rowsA : IVec S1536x1 32 := broadcastInDim S1536x1 ![0] bcast_S1536_S1536x1_0 (iotaInDim S1536 32 0)

/-- The row half of the index pairs: a negative row counts from the end. -/
def rowsB : IVec S1536x12544x1 32 :=
  broadcastInDim S1536x12544x1 ![0, 1] bcast_S1536x12544_S1536x12544x1_0_1
    (broadcastInDim S1536x12544 ![0, 1] bcast_S1536x1_S1536x12544_0_1
      (select (cmpi .slt rowsA (broadcastInDim S1536x1 ![] bcast_S_S1536x1 (constantI S_ 32 0#32)))
        (addi rowsA (broadcastInDim S1536x1 ![] bcast_S_S1536x1 (constantI S_ 32 1536#32))) rowsA))

/-- The position half: a negative position counts from the end. -/
def colsB (a1 : IVec S8x192x112x112 32) : IVec S1536x12544x1 32 :=
  broadcastInDim S1536x12544x1 ![0, 1] bcast_S1536x12544_S1536x12544x1_0_1
    (select (cmpi .slt (iArr a1) (broadcastInDim S1536x12544 ![] bcast_S_S1536x12544 (constantI S_ 32 0#32)))
      (addi (iArr a1) (broadcastInDim S1536x12544 ![] bcast_S_S1536x12544 (constantI S_ 32 50176#32))) (iArr a1))

/-- The index pairs. -/
def pairs (a1 : IVec S8x192x112x112 32) : IVec S1536x12544x2 32 :=
  concatenate S1536x12544x2 2 [⟨S1536x12544x1, rowsB⟩, ⟨S1536x12544x1, colsB a1⟩] concatenates_S1536x12544x1_S1536x12544x1_S1536x12544x2_d2

/-- All zeros. -/
def zerosA : Vec F S1536x50176 .f32 := broadcastInDim S1536x50176 ![] bcast_S_S1536x50176 (constant S_ .f32 0x00000000#32)

/-- The array of positions: at each element the number, counted from one, of the lane whose value it takes. -/
def posArr (a1 : IVec S8x192x112x112 32) : Vec F S1536x50176 .f32 :=
  Host.scatter scatter_S1536x50176_S1536x12544x2_S1536x12544_n_01_01_2 (fun _ b => b) zerosA (pairs a1) codes

variable (V : Valuation τ sig (Elt F))

/-- What the call reads as `x`. -/
theorem read_v0 : StableHlo.after opsA V (Proc.devRef .tc main_v0) = xArr (V (Proc.devRef .tc main_arg0)) := by
  unfold opsA
  after_results_simp
  rfl

/-- The operations up to the pairs' two halves. -/
def opsA₁ : List (HloOp τ sig (Elt F)) := opsA.take 29
def opsA₂ : List (HloOp τ sig (Elt F)) := opsA.drop 29

theorem after_split : StableHlo.after opsA V = StableHlo.after opsA₂ (StableHlo.after opsA₁ V) := rfl

theorem read_v21 : StableHlo.after opsA₁ V (Proc.devRef .tc main_v21) = rowsB := by
  unfold opsA₁ opsA
  simp only [List.take_succ_cons, List.take_zero]
  after_results_simp
  rfl

theorem read_v22 : StableHlo.after opsA₁ V (Proc.devRef .tc main_v22) = colsB (V (Proc.devRef .tc main_arg1)) := by
  unfold opsA₁ opsA
  simp only [List.take_succ_cons, List.take_zero]
  after_results_simp
  rfl

theorem read_v8 : StableHlo.after opsA₁ V (Proc.devRef .tc main_v8) = codes := by
  unfold opsA₁ opsA
  simp only [List.take_succ_cons, List.take_zero]
  after_results_simp
  rfl

theorem read_v9 : StableHlo.after opsA₁ V (Proc.devRef .tc main_v9) = zerosA := by
  unfold opsA₁ opsA
  simp only [List.take_succ_cons, List.take_zero]
  after_results_simp
  rfl

/-- What the call reads as the array of positions. -/
theorem read_v24 : StableHlo.after opsA V (Proc.devRef .tc main_v24) = posArr (V (Proc.devRef .tc main_arg1)) := by
  rw [after_split]
  have h21 := read_v21 V
  have h22 := read_v22 V
  have h8 := read_v8 V
  have h9 := read_v9 V
  generalize StableHlo.after opsA₁ V = W at *
  unfold opsA₂ opsA
  simp only [List.drop_succ_cons, List.drop_zero]
  after_results_simp
  rw [h21, h22, h8, h9]
  rfl

theorem read_v25 : StableHlo.after opsA V (Proc.devRef .tc main_v25) = V (Proc.devRef .tc main_v25) := by
  unfold opsA
  after_results_simp

theorem read_arg0 : StableHlo.after opsA V (Proc.devRef .tc main_arg0) = V (Proc.devRef .tc main_arg0) := by
  unfold opsA
  after_results_simp

theorem read_arg1 : StableHlo.after opsA V (Proc.devRef .tc main_arg1) = V (Proc.devRef .tc main_arg1) := by
  unfold opsA
  after_results_simp

end Cert.Proof.Unpool

end

end
-- ==== Proof.Launch.lean ====
/-
  The program's run: every tile is handed its 48 rows and hands them back, @main runs its operations, the call and the
  reshape, and the arguments end where they started. The result is named.
-/
module

public import proofs.«01_k».proof.Proof.Tile
public import proofs.«01_k».proof.Proof.Host

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S1536x12544 EltTy.f32)
local notation "pV" => (Memref.whole Cert.KernelIdeal.main_v24_scv : Memref Cert.KernelIdeal.sig Kind.scVector Space.hbm Cert.KernelIdeal.S1536x50176 EltTy.f32)
local notation "oV" => (Memref.whole Cert.KernelIdeal.main_v25_scv : Memref Cert.KernelIdeal.sig Kind.scVector Space.hbm Cert.KernelIdeal.S1536x50176 EltTy.f32)
local notation "s0" => (Memref.whole Cert.KernelIdeal.cc0_scratch0 : Memref Cert.KernelIdeal.sig Kind.scVector Space.vmem Cert.KernelIdeal.S12544 EltTy.f32)
local notation "s1" => (Memref.whole Cert.KernelIdeal.cc0_scratch1 : Memref Cert.KernelIdeal.sig Kind.scVector Space.vmem Cert.KernelIdeal.S12544 EltTy.f32)
local notation "s2" => (Memref.whole Cert.KernelIdeal.cc0_scratch2 : Memref Cert.KernelIdeal.sig Kind.scVector Space.vmem Cert.KernelIdeal.S12544 EltTy.f32)

variable (m : (ℓ : Loc nD τ sig) → Buf (Elt F) ℓ) (ρ : Dev nD → PrngReg)

/-! ## The tiles' blocks -/

/-- The grid point of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem blockNo_coordsV (c : Fin 2) (s : Fin 16) : blockNo (coordsV c s) = 2 * s.val + c.val := rfl

/-- Whole arrays of 1536 rows are the 32 tiles' blocks of 48: the blocks are apart and cover every row. -/
theorem tiles_split {n : ℕ} {α : Type} [DecidableEq α] [Fintype α] (row : α → ℕ) (hrow : ∀ a, row a < 1536) :
    (∀ t ∈ (Finset.univ : Finset (Fin 2 × Fin 16)), ∀ t' ∈ (Finset.univ : Finset (Fin 2 × Fin 16)), t ≠ t' →
      Disjoint (Finset.univ.filter fun a => row a / 48 = blockNo (coordsV t.1 t.2)) (Finset.univ.filter fun a => row a / 48 = blockNo (coordsV t'.1 t'.2)))
    ∧ (Finset.univ : Finset (Fin 2 × Fin 16)).biUnion (fun t => Finset.univ.filter fun a => row a / 48 = blockNo (coordsV t.1 t.2)) = Finset.univ := by
  constructor
  · rintro ⟨c, s⟩ - ⟨c', s'⟩ - hne
    refine Finset.disjoint_left.mpr fun a h h' => hne ?_
    have e := (Finset.mem_filter.mp h).2.symm.trans (Finset.mem_filter.mp h').2
    dsimp only at e
    rw [blockNo_coordsV, blockNo_coordsV] at e
    have := c.isLt; have := c'.isLt
    have h1 : c = c' := Fin.ext (by omega)
    have h2 : s = s' := Fin.ext (by omega)
    rw [h1, h2]
  · refine Finset.eq_univ_iff_forall.mpr fun a => Finset.mem_biUnion.mpr ?_
    have := hrow a
    refine ⟨(⟨row a / 48 % 2, Nat.mod_lt _ (by decide)⟩, ⟨row a / 48 / 2, by omega⟩), Finset.mem_univ _, Finset.mem_filter.mpr ⟨Finset.mem_univ _, ?_⟩⟩
    dsimp only
    rw [blockNo_coordsV]
    dsimp only
    omega

theorem tiles_x (d : Dev nD) (x : Vec F S1536x12544 .f32) :
    (iprop(xLoc d ↦{fullShare} x) : sProp 𝕄)
      = bigSep Finset.univ fun c : Fin 2 => bigSep Finset.univ fun s : Fin 16 => iprop(xLoc d ↦[tileX (coordsV c s)]{fullShare} x) := by
  have h := tiles_split (n := 0) (fun j : S1536x12544.Idx => (j 0).val) (fun j => (j 0).isLt)
  refine Eq.trans ?_ (bigSep_univ_prod fun t : Fin 2 × Fin 16 => (iprop(xLoc d ↦[tileX (coordsV t.1 t.2)]{fullShare} x) : sProp 𝕄))
  exact (congrArg (fun I => (iprop(xLoc d ↦[I]{fullShare} x) : sProp 𝕄)) h.2.symm).trans
    (pointsTo_biUnion (ℓ := xLoc d) (q := fullShare) (f := x) (Finset.univ : Finset (Fin 2 × Fin 16)) _ h.1)

theorem tiles_p (d : Dev nD) (x : Vec F S1536x50176 .f32) :
    (iprop(pLoc d ↦{fullShare} x) : sProp 𝕄)
      = bigSep Finset.univ fun c : Fin 2 => bigSep Finset.univ fun s : Fin 16 => iprop(pLoc d ↦[tileO (coordsV c s)]{fullShare} x) := by
  have h := tiles_split (n := 0) (fun j : S1536x50176.Idx => (j 0).val) (fun j => (j 0).isLt)
  refine Eq.trans ?_ (bigSep_univ_prod fun t : Fin 2 × Fin 16 => (iprop(pLoc d ↦[tileO (coordsV t.1 t.2)]{fullShare} x) : sProp 𝕄))
  exact (congrArg (fun I => (iprop(pLoc d ↦[I]{fullShare} x) : sProp 𝕄)) h.2.symm).trans
    (pointsTo_biUnion (ℓ := pLoc d) (q := fullShare) (f := x) (Finset.univ : Finset (Fin 2 × Fin 16)) _ h.1)

theorem tiles_o (d : Dev nD) (x : Vec F S1536x50176 .f32) :
    (iprop(oLoc d ↦{fullShare} x) : sProp 𝕄)
      = bigSep Finset.univ fun c : Fin 2 => bigSep Finset.univ fun s : Fin 16 => iprop(oLoc d ↦[tileO (coordsV c s)]{fullShare} x) := by
  have h := tiles_split (n := 0) (fun j : S1536x50176.Idx => (j 0).val) (fun j => (j 0).isLt)
  refine Eq.trans ?_ (bigSep_univ_prod fun t : Fin 2 × Fin 16 => (iprop(oLoc d ↦[tileO (coordsV t.1 t.2)]{fullShare} x) : sProp 𝕄))
  exact (congrArg (fun I => (iprop(oLoc d ↦[I]{fullShare} x) : sProp 𝕄)) h.2.symm).trans
    (pointsTo_biUnion (ℓ := oLoc d) (q := fullShare) (f := x) (Finset.univ : Finset (Fin 2 × Fin 16)) _ h.1)

/-- The three arrays whole are what the 32 tiles are handed. -/
theorem tiles_go (d : Dev nD) (x : Vec F S1536x12544 .f32) (p f : Vec F S1536x50176 .f32) :
    (bigSep Finset.univ fun c : Fin 2 => bigSep Finset.univ fun s : Fin 16 => goT d (coordsV c s) x p f : sProp 𝕄)
      = iprop((xLoc d ↦{fullShare} x) ∗ (pLoc d ↦{fullShare} p) ∗ (oLoc d ↦{fullShare} f)) := by
  rw [tiles_x, tiles_p, tiles_o, ← bigSep_sep', ← bigSep_sep']
  refine bigSep_congr fun c _ => ?_
  rw [← bigSep_sep', ← bigSep_sep']

/-! ## The call's operands and results -/

/-- A device's contents at the launch. -/
abbrev V0 (d : Dev nD) : Valuation τ sig (Elt F) := fun b => m (d, b)
/-- The arguments at the launch. -/
abbrev arg0 (d : Dev nD) : Vec F S8x192x112x112 .f32 := m ((SparseCore.T d).loc main_arg0)
abbrev arg1 (d : Dev nD) : IVec S8x192x112x112 32 := m ((SparseCore.T d).loc main_arg1)
/-- What the call is given and what it leaves. -/
abbrev xIn (d : Dev nD) : Vec F S1536x12544 .f32 := xArr (arg0 m d)
abbrev pIn (d : Dev nD) : Vec F S1536x50176 .f32 := posArr (arg1 m d)
abbrev oIn (d : Dev nD) : Vec F S1536x50176 .f32 := m (oLoc d)
abbrev oOut (d : Dev nD) : Vec F S1536x50176 .f32 := outArr (xIn m d) (pIn m d)

/-- The one call takes the three arrays, each task its block, and brings them back, the result's written. -/
def P : (K (F := F)).Pay (nD := nD) (Val := Elt F) (Name := ℕ) (U := UU) where
  st := fun q d c => match q with
    | 0 => bigSep Finset.univ fun i : Fin 16 => goT d (coordsV c i) (xIn m d) (pIn m d) (oIn m d)
  dn := fun q d c => match q with
    | 0 => bigSep Finset.univ fun i : Fin 16 => goT d (coordsV c i) (xIn m d) (pIn m d) (oOut m d)
  go := fun q d c i => match q with
    | 0 => goT d (coordsV c i) (xIn m d) (pIn m d) (oIn m d)
  td := fun q d c i => match q with
    | 0 => goT d (coordsV c i) (xIn m d) (pIn m d) (oOut m d)
  x := fun _ _ => iprop(emp)

instance P_storable : (P (F := F) m).IsStorable where
  st q d c := match q with
    | 0 => (inferInstance : BI.Storable (upEmb : UEmb _ 𝕄) (bigSep Finset.univ fun i : Fin 16 => goT d (coordsV c i) (xIn m d) (pIn m d) (oIn m d)))
  dn q d c := match q with
    | 0 => (inferInstance : BI.Storable (upEmb : UEmb _ 𝕄) (bigSep Finset.univ fun i : Fin 16 => goT d (coordsV c i) (xIn m d) (pIn m d) (oOut m d)))
  go q d c i := match q with
    | 0 => (inferInstance : BI.Storable (upEmb : UEmb _ 𝕄) (goT d (coordsV c i) (xIn m d) (pIn m d) (oIn m d)))
  td q d c i := match q with
    | 0 => (inferInstance : BI.Storable (upEmb : UEmb _ 𝕄) (goT d (coordsV c i) (xIn m d) (pIn m d) (oOut m d)))

theorem defs₀_vector (c : Fin τ.nSC) (s : Fin τ.nSub) :
    defs₀ (F := F) (.scVector c s) 0 ()
      = SparseCore.onTile hcore0 hsub0 (fun c s => cc0__unpool_sc (coordsV c s)
          xV (Memref.isWhole_whole _) pV (Memref.isWhole_whole _) oV (Memref.isWhole_whole _)
          s0 (Memref.isWhole_whole _) s1 (Memref.isWhole_whole _) s2 (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile runs its task. -/
theorem tileObl (hp : ∀ d, InRange (pIn m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (xIn m d) (pIn m d) (oIn m d) (hp d) O W hO).trans (wp_mono frame _ _ fun _ => obl_post)

/-- A core's share is its sixteen tiles'. -/
theorem vecSplit : (K (F := F)).VecSplit' (P m) 0 := by
  intro d c
  show (bigSep Finset.univ fun i : Fin 16 => goT d (coordsV c i) (xIn m d) (pIn m d) (oIn m d) : sProp 𝕄)
    ⊢ |={Set.univ}=> iprop((bigSep Finset.univ fun i : Fin 16 => goT d (coordsV c i) (xIn m d) (pIn m d) (oIn m d))
      ∗ ((bigSep Finset.univ fun i : Fin 16 => goT d (coordsV c i) (xIn m d) (pIn m d) (oOut m d))
        -∗ (bigSep Finset.univ fun i : Fin 16 => goT d (coordsV c i) (xIn m d) (pIn m d) (oOut m d))))
  iintro H; imodintro
  isplitl [H]; · iexact H
  iintro H; iexact H

/-! ## The launch element -/

def u₀ : UU := (initOf (K (F := F)).hsCells (K (F := F)).hsToks, 1)

omit [FloatOps F] in
/-- Nothing, as often as one likes, is nothing. -/
theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing]; iempintro
  unfold P; dsimp only
  rw [show (bigSep Finset.univ fun _ : Thread nD τ => bigSep Finset.univ fun _ : Fin 1 => (iprop(emp) : sProp 𝕄)) = iprop(emp) from by
    rw [bigSep_congr fun _ _ => nothing _, nothing]]
  iempintro

/-! ## @main on the TensorCore -/

abbrev xB : DevRef τ sig := Proc.devRef .tc (main_v0 : Ref sig .tc)
abbrev pB : DevRef τ sig := Proc.devRef .tc (main_v24 : Ref sig .tc)
abbrev oB : DevRef τ sig := Proc.devRef .tc (main_v25 : Ref sig .tc)
abbrev rB : DevRef τ sig := Proc.devRef .tc (main_v26 : Ref sig .tc)
abbrev aB : DevRef τ sig := Proc.devRef .tc (main_arg0 : Ref sig .tc)
abbrev iB : DevRef τ sig := Proc.devRef .tc (main_arg1 : Ref sig .tc)

/-- The call's three arrays, and the three the claim speaks of. -/
abbrev callBufs : Finset (DevRef τ sig) := {xB, pB, oB}
abbrev endBufs : Finset (DevRef τ sig) := {rB, aB, iB}

omit [FloatOps F] in
theorem held_call (d : Dev nD) (W : Valuation τ sig (Elt F)) :
    (held (T d) callBufs W : sProp 𝕄) = iprop((xLoc d ↦{fullShare} W xB) ∗ (pLoc d ↦{fullShare} W pB) ∗ (oLoc d ↦{fullShare} W oB)) := by
  unfold held callBufs
  rw [SparseCore.bigSep_insert' (by decide), SparseCore.bigSep_insert' (by decide), bigSep_singleton]

omit [FloatOps F] in
theorem held_end (d : Dev nD) (W : Valuation τ sig (Elt F)) :
    (held (T d) endBufs W : sProp 𝕄) = iprop(((SparseCore.T d).loc main_v26 ↦{fullShare} W rB) ∗ ((SparseCore.T d).loc main_arg0 ↦{fullShare} W aB)
      ∗ ((SparseCore.T d).loc main_arg1 ↦{fullShare} W iB)) := by
  unfold held endBufs
  rw [SparseCore.bigSep_insert' (by decide), SparseCore.bigSep_insert' (by decide), bigSep_singleton]

/-- The contents when the call starts, and when it has ended. -/
abbrev V1 (d : Dev nD) : Valuation τ sig (Elt F) := StableHlo.after opsA (V0 m d)
def V2 (d : Dev nD) : Valuation τ sig (Elt F) := Function.update (V1 m d) oB (oOut m d)

theorem V1_x (d : Dev nD) : V1 m d xB = xIn m d := read_v0 _
theorem V1_p (d : Dev nD) : V1 m d pB = pIn m d := read_v24 _
theorem V1_o (d : Dev nD) : V1 m d oB = oIn m d := read_v25 _
theorem V2_o (d : Dev nD) : V2 m d oB = oOut m d := Function.update_self _ _ _
theorem V2_ne (d : Dev nD) (b : DevRef τ sig) (h : b ≠ oB) : V2 m d b = V1 m d b := Function.update_of_ne h _ _

/-- The result of @main. -/
def resOut (d : Dev nD) : Vec F S8x192x224x224 .f32 := shapeCast S8x192x224x224 (oOut m d) shapeCasts_S1536x50176_S8x192x224x224

theorem end_r (d : Dev nD) : (opB (F := F)).result (V2 m d) rB = resOut m d := by
  refine (StableHlo.reshape_result _ _ _ _ _ _ _).trans ?_
  rw [V2_o]
  rfl
theorem end_a (d : Dev nD) : (opB (F := F)).result (V2 m d) aB = arg0 m d := by
  rw [(opB (F := F)).result_of_not_mem (V2 m d) (b := aB) (show aB ∉ ({rB} : Finset (DevRef τ sig)) by decide), V2_ne m d aB (by decide)]
  exact read_arg0 _
theorem end_i (d : Dev nD) : (opB (F := F)).result (V2 m d) iB = arg1 m d := by
  rw [(opB (F := F)).result_of_not_mem (V2 m d) (b := iB) (show iB ∉ ({rB} : Finset (DevRef τ sig)) by decide), V2_ne m d iB (by decide)]
  exact read_arg1 _

theorem mem_uc (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

theorem callBufs_sub : callBufs ⊆ Pipeline.ucRefs τ sig := by
  intro b hb
  simp only [callBufs, Finset.mem_insert, Finset.mem_singleton] at hb
  rcases hb with rfl | rfl | rfl <;> exact mem_uc _ (by decide)
theorem endBufs_sub : endBufs ⊆ Pipeline.ucRefs τ sig := by
  intro b hb
  simp only [endBufs, Finset.mem_insert, Finset.mem_singleton] at hb
  rcases hb with rfl | rfl | rfl <;> exact mem_uc _ (by decide)
theorem opB_sub : (opB (F := F)).bufs ⊆ Pipeline.ucRefs τ sig := Pipeline.sub_ucRefs _ (by simp)

/-- What the call takes, over both cores, and what it hands back. -/
theorem st_eq (d : Dev nD) : (bigSep Finset.univ fun c : Fin ((K (F := F)).nCore 0) => (P m).st 0 d c)
    = (iprop((xLoc d ↦{fullShare} xIn m d) ∗ (pLoc d ↦{fullShare} pIn m d) ∗ (oLoc d ↦{fullShare} oIn m d)) : sProp 𝕄) := tiles_go d _ _ _
theorem dn_eq (d : Dev nD) : (bigSep Finset.univ fun c : Fin ((K (F := F)).nCore 0) => (P m).dn 0 d c)
    = (iprop((xLoc d ↦{fullShare} xIn m d) ∗ (pLoc d ↦{fullShare} pIn m d) ∗ (oLoc d ↦{fullShare} oOut m d)) : sProp 𝕄) := tiles_go d _ _ _

/-- What @main leaves: the result, and the arguments as they were. -/
abbrev FIN (d : Dev nD) : sProp 𝕄 := held (T d) endBufs ((opB (F := F)).result (V2 m d))

theorem hmain (κ : GSem nD τ sig → ℕ) (d : Dev nD) :
    iprop((K (F := F)).ctx EH (P m) κ ∗ (K (F := F)).tcSt EH d 0 ∗ (K (F := F)).tcRes m ρ d ∗ emp)
      ⊢ wp (M := 𝕄) frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, ← StableHlo.seq_bind_seqK]
  iintro ⟨#Hctx, Hst, ⟨Hb, Hheld, Hts, -⟩, -⟩
  ihave Hheld := (Entails.of_eq (Pipeline.unscopedBufs_held (Ix := HIx 1) (Name := ℕ) (U := UU) (Lvl := ℕ) d (V0 m d))) $$ Hheld
  iapply (StableHlo.wp_seq 𝒱 none Set.univ d (Pipeline.ucRefs τ sig) (fun _ => tailM d) opsA (fun op h => Pipeline.sub_ucRefs op (opsA_sub op h)) opsA_fresh (V0 m d)) $$ [Hb Hheld]
  · isplitl [Hb]; · iexact Hb
    iexact Hheld
  iintro ⟨Hb, Hheld⟩
  ihave Hh := (Entails.of_eq (StableHlo.held_sub_split (d.tc : Thread nD τ) callBufs_sub (V1 m d))) $$ Hheld
  icases Hh with ⟨Hcall, Hrest⟩
  ihave Hcall := (Entails.of_eq ((held_call (F := F) d (V1 m d)).trans (by rw [V1_x, V1_p, V1_o, ← st_eq]))) $$ Hcall
  simp only [tailM, wp_bind, wp_pure]
  iapply ((K (F := F)).wp_run (D (F := F)) 𝒱 (EH := EH) (P := P m) κ d 0) $$ [Hst Hcall Hb Hrest Hts]
  isplitr; · iexact Hctx
  isplitl [Hst]; · iexact Hst
  isplitl [Hcall]; · iexact Hcall
  iintro ⟨Hst, Hdn⟩
  ihave Hdn := (Entails.of_eq ((dn_eq m d).trans (by
    rw [← V1_x, ← V1_p, ← V2_o, ← V2_ne m d xB (by decide), ← V2_ne m d pB (by decide), ← held_call (F := F) d (V2 m d)]))) $$ Hdn
  ihave Hrest := (Entails.of_eq (StableHlo.held_congr (d.tc : Thread nD τ) (V' := V2 m d) fun b hb => (V2_ne m d b fun e => (Finset.mem_sdiff.mp hb).2 (by
    rw [e]; decide)).symm)) $$ Hrest
  iapply (StableHlo.wp_hlo_within 𝒱 (SparseCore.T d) none Set.univ (op := opB) (S := Pipeline.ucRefs τ sig) opB_sub (V := V2 m d)) $$ [Hb Hdn Hrest]
  · isplitl [Hb]; · iexact Hb
    rw [StableHlo.held_sub_split (d.tc : Thread nD τ) callBufs_sub (V2 m d)]
    isplitl [Hdn]; · iexact Hdn
    iexact Hrest
  iintro ⟨Hb, Hheld⟩
  ihave Hh := (Entails.of_eq (StableHlo.held_sub_split (d.tc : Thread nD τ) endBufs_sub _)) $$ Hheld
  icases Hh with ⟨Hend, -⟩
  rw [wp_ret]; imodintro; imodintro
  isplitl [Hst]; · iexact Hst
  isplitl [Hend]; · iexact Hend
  isplitl [Hb] <;> iassumption

/-- What a final state satisfies on device `d`. -/
def fq (d : Dev nD) (s' : Phys nD τ sig (Elt F)) : Prop :=
  s'.mem.mem ((SparseCore.T d).loc main_v26) = resOut m d ∧ s'.mem.mem ((SparseCore.T d).loc main_arg0) = arg0 m d
    ∧ s'.mem.mem ((SparseCore.T d).loc main_arg1) = arg1 m d

theorem hfin (d : Dev nD) (s' : Phys nD τ sig (Elt F)) : iprop(FIN m d ∗ SI s') ⊢ (⌜fq m d s'⌝ : sProp 𝕄) := by
  unfold FIN
  rw [held_end, end_r, end_a, end_i]
  iintro ⟨⟨Hr, Ha, Hi⟩, HSI⟩
  ihave H := (persistent_entails_right (SI_pointsTo_agree (st := s') (ℓ := (SparseCore.T d).loc main_v26) (I := Finset.univ) (q := fullShare) (f := resOut m d))) $$ [HSI Hr]
  · isplitl [HSI] <;> iassumption
  icases H with ⟨%hr, HSI, -⟩
  ihave H := (persistent_entails_right (SI_pointsTo_agree (st := s') (ℓ := (SparseCore.T d).loc main_arg0) (I := Finset.univ) (q := fullShare) (f := arg0 m d))) $$ [HSI Ha]
  · isplitl [HSI] <;> iassumption
  icases H with ⟨%ha, HSI, -⟩
  ihave H := (SI_pointsTo_agree (st := s') (ℓ := (SparseCore.T d).loc main_arg1) (I := Finset.univ) (q := fullShare) (f := arg1 m d)) $$ [HSI Hi]
  · isplitl [HSI] <;> iassumption
  icases H with %hi
  ipureintro
  exact ⟨funext fun i => hr i (Finset.mem_univ i), funext fun i => ha i (Finset.mem_univ i), funext fun i => hi i (Finset.mem_univ i)⟩

/-! ## The run -/

/-- The whole program, over any float values in which every position the host computes is within a row: it ends with the
    result at its named value, the arguments as they were and every semaphore at zero. -/
theorem run_main [∀ e, Nonempty (Elt F e)] (hp : ∀ d, InRange (pIn m d)) :
    θ_run (Cert.KernelIdeal.defs (F := F)) (Cert.KernelIdeal.threads (F := F)) ⟨m, fun _ => 0, ρ⟩
      (fun r => (∀ d : Dev nD, r.2.mem ((SparseCore.T d).loc main_v26) = resOut m d ∧ r.2.mem ((SparseCore.T d).loc main_arg0) = arg0 m d
        ∧ r.2.mem ((SparseCore.T d).loc main_arg1) = arg1 m d) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hp)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof.Unpool

end

end
-- ==== Proof.Range.lean ====
/-
  The array of positions holds, at every element, zero or a lane's number counted from one; so the word the kernel makes
  of it names a lane of the row. For the float unit's words and for exact reals alike.
-/
module

public import proofs.«01_k».proof.Proof.Host
public import Idealize.ShloMosaic.Lib.NatWords
public import Idealize.ShloMosaic.Lib.NatWordsOrder
public import Idealize.ShloMosaic.Lib.IdealHost
public import Idealize.ShloMosaic.Lib.Routing.OpsOrder

@[expose] public section

noncomputable section

namespace Cert.Proof.Unpool

open Cert.KernelIdeal Cert.KernelIdeal.Gen

open Idealize.ShloMosaic
open Idealize.ShloMosaic.ValueIdx (ix1 ix2 eq_ix1 eq_ix2)

variable {F : FTy → Type} [FloatOps F]

/-- Lane `n`'s number counted from one, as the host computes it. -/
def code (n : ℕ) : F .f32 := FloatOps.addf (FloatOps.ofBits .f32 0x3F800000#32) (FloatOps.sitofp .f32 (BitVec.ofNat 32 n))

/-- The updates of the array of positions: each element the code of its lane. -/
theorem codes_apply (j : S1536x12544.Idx) : (codes : Vec F S1536x12544 .f32) j = code (j 1).val := by
  unfold codes
  refine (broadcastInDim_apply (s := S1x12544) (t := S1536x12544) _ _ _ j (ix2 (0 : Fin 1) (j 1)) (fun a => by match a with | 0 => rfl | 1 => rfl)).trans ?_
  refine (broadcastInDim_apply (s := S12544) (t := S1x12544) _ _ _ _ (ix1 (j 1)) (fun a => by match a with | 0 => rfl)).trans ?_
  rfl

theorem zerosA_apply (j : S1536x50176.Idx) : (zerosA : Vec F S1536x50176 .f32) j = FloatOps.ofBits .f32 0x00000000#32 := rfl

/-- What the two facts below say of a choice of float values: zero's word is zero, and a lane's code gives the lane. -/
structure Exact (F : FTy → Type) [FloatOps F] : Prop where
  zero : srcWord (F := F) (FloatOps.ofBits .f32 0x00000000#32) = 0#32
  code : ∀ n < 12544, srcWord (F := F) (code n) = BitVec.ofNat 32 n

/-- Every position names a lane of the row. -/
theorem inRange (h : Exact F) (a1 : IVec S8x192x112x112 32) : InRange (posArr (F := F) a1) := by
  intro j
  refine Routing.scatter_forall _ _ (fun w => (srcWord w).toNat < 12544) (fun _ _ _ hb => hb) _ _ _ (fun i => ?_) (fun i => ?_) j
  · rw [zerosA_apply, h.zero]; decide
  · have hi : (i 1).val < 12544 := (i 1).isLt
    rw [codes_apply, h.code _ hi, BitVec.toNat_ofNat]
    omega

/-- From the word of `n + 1` the word of `n`: less one, and not negative. -/
theorem pred_word (n : ℕ) (h : n < 12544) : IntOp.maxsi (IntOp.subi (BitVec.ofNat 32 (1 + n)) 1#32) 0#32 = BitVec.ofNat 32 n := by
  have e : IntOp.subi (BitVec.ofNat 32 (1 + n)) 1#32 = BitVec.ofNat 32 n := by
    show BitVec.ofNat 32 (1 + n) - 1#32 = _
    apply BitVec.eq_of_toNat_eq
    simp only [BitVec.toNat_sub, BitVec.toNat_ofNat]
    omega
  rw [e]
  show (if (0#32).slt (BitVec.ofNat 32 n) then _ else _) = _
  by_cases h0 : n = 0
  · subst h0; rfl
  · refine if_pos ?_
    have e2 : (BitVec.ofNat 32 n).toInt = (n : ℤ) := by
      rw [BitVec.toInt_eq_toNat_of_lt (by rw [BitVec.toNat_ofNat]; omega), BitVec.toNat_ofNat]
      omega
    rw [BitVec.slt_eq_decide, e2]
    refine decide_eq_true ?_
    show (0 : ℤ) < _
    omega

/-- The float unit's words: its sums and conversions are exact on these integers. -/
theorem exact_bits : Exact Bits where
  zero := by
    unfold srcWord
    rw [show (FloatOps.ofBits .f32 0x00000000#32 : Bits .f32) = Bits.f32OfNat 0 from Bits.f32OfNat_zero.symm,
      show (FloatOps.fptosi 32 (Bits.f32OfNat 0) : BitVec 32) = BitVec.ofNat 32 0 from Bits.fptosi32_nat 0 (by decide)]
    decide
  code n h := by
    have h1 : (FloatOps.ofBits .f32 0x3F800000#32 : Bits .f32) = Bits.f32OfNat 1 := by
      rw [Bits.f32OfNat_eq 1 (by decide)]; decide
    have h2 : (FloatOps.sitofp .f32 (BitVec.ofNat 32 n) : Bits .f32) = Bits.f32OfNat n := Bits.sitofp32_ofNat (by omega)
    unfold srcWord code
    rw [h1, h2, show (FloatOps.addf (Bits.f32OfNat 1) (Bits.f32OfNat n) : Bits .f32) = Bits.f32OfNat (1 + n) from Bits.addf32_nat 1 n (by omega),
      show (FloatOps.fptosi 32 (Bits.f32OfNat (1 + n)) : BitVec 32) = BitVec.ofNat 32 (1 + n) from Bits.fptosi32_nat (1 + n) (by omega)]
    exact pred_word n h

/-- A natural number, as a real, converts to its word. -/
theorem ideal_fptosi (n : ℕ) (h : n < 2 ^ 31) : Ideal.fptosi 32 (((n : ℝ) : EReal)) = BitVec.ofNat 32 n := by
  unfold Ideal.fptosi
  show BitVec.ofInt 32 (max _ (min _ (if (0 : ℝ) ≤ (n : ℝ) then ⌊(n : ℝ)⌋ else ⌈(n : ℝ)⌉))) = _
  rw [if_pos (Nat.cast_nonneg n), Int.floor_natCast]
  have : max (-((2 ^ (32 - 1) : ℕ) : ℤ)) (min (((2 ^ (32 - 1) : ℕ) : ℤ) - 1) (n : ℤ)) = (n : ℤ) := by
    rw [min_eq_right (by norm_num; omega), max_eq_right (by omega)]
  rw [this, BitVec.ofInt_natCast]

/-- A lane's code in exact reals: the number counted from one. -/
theorem ideal_code (n : ℕ) (h : n < 12544) : (code n : Ideal .f32) = (((1 + n : ℕ) : ℝ) : EReal) := by
  show Ideal.ofBits .f32 0x3F800000#32 + (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat]
    omega
  rw [Ideal.ofBits_one_f32, e]
  push_cast
  rfl

theorem exact_ideal : Exact Ideal where
  zero := by
    unfold srcWord
    rw [show (FloatOps.fptosi 32 (FloatOps.ofBits .f32 0x00000000#32 : Ideal .f32) : BitVec 32) = BitVec.ofNat 32 0 from by
      rw [show (FloatOps.ofBits .f32 0x00000000#32 : Ideal .f32) = (((0 : ℕ) : ℝ) : EReal) from by
        show Ideal.ofBits .f32 0x00000000#32 = _
        simp [Ideal.ofBits, Ideal.ieee]]
      exact ideal_fptosi 0 (by decide)]
    decide
  code n h := by
    unfold srcWord
    rw [show (FloatOps.fptosi 32 (Unpool.code n : Ideal .f32) : BitVec 32) = BitVec.ofNat 32 (1 + n) from by
      rw [ideal_code n h]; exact ideal_fptosi (1 + n) (by omega)]
    exact pred_word n h

end Cert.Proof.Unpool

end

end
-- ==== Proof.Equation.lean ====
/-
  What the call leaves is the reference's scatter: the last update that lands on an element names, in one program, the
  lane of `x` that is the update in the other.
-/
module

public import proofs.«01_k».proof.Proof.Range
public import Idealize.ShloMosaic.Lib.Routing.OpsPair

@[expose] public section

noncomputable section

namespace Cert.Proof.Unpool

open Cert.KernelIdeal Cert.KernelIdeal.Gen

open Idealize.ShloMosaic
open Idealize.ShloMosaic.ValueIdx (ix1 ix2 ix3 eq_ix1 eq_ix2)

/-- Two scatters of updates at the same places keep any relation that holds between the arrays they start from and
    between the updates at the places they land. -/
theorem scatter_rel {α β : Type} {s si u : Shape} {w : ℕ} (d : ScatterDims s si u) (idx : IVec si w) (R : s.Idx → α → β → Prop)
    (x : s.Idx → α) (x' : s.Idx → β) (upd : u.Idx → α) (upd' : u.Idx → β) (h0 : ∀ i, R i (x i) (x' i))
    (hu : ∀ n i, d.resultIdx? n idx = some i → R i (upd n) (upd' n)) (i : s.Idx) :
    R i (Host.scatter d (fun _ b => b) x idx upd i) (Host.scatter d (fun _ b => b) x' idx upd' i) := by
  rw [Routing.scatter_at, Routing.scatter_at]
  have h := h0 i
  revert h
  generalize x i = a
  generalize x' i = b
  generalize List.finRange u.numel = l
  induction l generalizing a b with
  | nil => exact id
  | cons n l ih =>
    intro h
    simp only [List.foldl_cons]
    by_cases e : d.resultIdx? (u.rowMajor.symm n) idx = some i
    · rw [if_pos e, if_pos e]; exact ih _ _ (hu _ _ e)
    · rw [if_neg e, if_neg e]; exact ih _ _ h

/-- The row numbers of the host's pairs. -/
theorem rowsA_apply (r : Fin 1536) (z : Fin 1) : rowsA (ix2 r z) = BitVec.ofNat 32 r.val := by
  unfold rowsA
  exact (broadcastInDim_apply (s := S1536) (t := S1536x1) _ _ _ _ (ix1 r) (fun a => by match a with | 0 => rfl)).trans rfl

/-- The row half of a pair is its own row. -/
theorem rowsB_apply (r : Fin 1536) (l : Fin 12544) (z : Fin 1) : rowsB (ix3 r l z) = BitVec.ofNat 32 r.val := by
  unfold rowsB
  refine (broadcastInDim_apply (s := S1536x12544) (t := S1536x12544x1) _ _ _ _ (ix2 r l) (fun a => by match a with | 0 => rfl | 1 => rfl)).trans ?_
  refine (broadcastInDim_apply (s := S1536x1) (t := S1536x12544) _ _ _ _ (ix2 r (0 : Fin 1)) (fun a => by match a with | 0 => rfl | 1 => rfl)).trans ?_
  show Scalar.select (IntOp.cmpi .slt (rowsA (ix2 r (0 : Fin 1))) 0#32) _ (rowsA (ix2 r (0 : Fin 1))) = _
  have hr := r.isLt
  rw [rowsA_apply, Routing.wrap_of_lt _ _ (by rw [BitVec.toNat_ofNat]; omega)]

/-- The first word of a pair. -/
theorem pairs_row (a1 : IVec S8x192x112x112 32) (r : Fin 1536) (l : Fin 12544) : pairs a1 (ix3 r l (0 : Fin 2)) = BitVec.ofNat 32 r.val := by
  unfold pairs
  refine (concatenate_pair_apply_left (t := S1536x12544x2) (s₁ := S1536x12544x1) (s₂ := S1536x12544x1) (2 : Fin 3) _ _ _ _ rfl (ix3 r l (0 : Fin 1))
    (fun b => by match b with | 0 => rfl | 1 => rfl | 2 => rfl)).trans (rowsB_apply r l 0)

/-- An update lands in its own row. -/
theorem lands_row (a1 : IVec S8x192x112x112 32) (n : S1536x12544.Idx) (i : S1536x50176.Idx)
    (h : scatter_S1536x50176_S1536x12544x2_S1536x12544_n_01_01_2.resultIdx? n (pairs a1) = some i) : (i 0).val = (n 0).val := by
  rw [eq_ix2 n, eq_ix2 i] at h
  have e := ((Routing.scatter_lands2 (R := 1536) (C := 50176) (A := 1536) (B := 12544)
    scatter_S1536x50176_S1536x12544x2_S1536x12544_n_01_01_2 rfl rfl rfl (pairs a1) (n 0) (n 1) (i 0) (i 1)).mp h).1
  have hn : (n 0).val < 1536 := (n 0).isLt
  rw [show pairs a1 (ix3 (n 0) (n 1) 0) = BitVec.ofNat 32 (n 0).val from pairs_row a1 (n 0) (n 1),
    BitVec.toInt_eq_toNat_of_lt (by rw [BitVec.toNat_ofNat]; omega), BitVec.toNat_ofNat] at e
  omega

/-- The threshold is one half. -/
theorem half_bits : Ideal.ofBits .f32 0x3F000000#32 = (((1 / 2 : ℝ)) : EReal) := by
  simp [Ideal.ofBits, Ideal.ieee, -EReal.coe_mul]; norm_num

/-- Zero names no lane: the element is zero. -/
theorem elt_zero (row : Fin 12544 → Ideal .f32) : elt (FloatOps.ofBits .f32 0x00000000#32 : Ideal .f32) row = FloatOps.ofBits .f32 0x00000000#32 := by
  unfold elt
  have h : (FloatOps.cmpf .ogt (FloatOps.ofBits .f32 0x00000000#32 : Ideal .f32) (FloatOps.ofBits .f32 0x3F000000#32) : BitVec 1) = 0#1 := by
    show Ideal.cmp .ogt (Ideal.ofBits .f32 0x00000000#32) (Ideal.ofBits .f32 0x3F000000#32) = 0#1
    rw [Ideal.ofBits_zero_f32, half_bits]
    refine congrArg BitVec.ofBool (decide_eq_false (not_lt.mpr ?_))
    exact_mod_cast (by norm_num : (0 : ℝ) ≤ 1 / 2)
  rw [h]; rfl

/-- A lane's code names the lane. -/
theorem elt_code (n : Fin 12544) (row : Fin 12544 → Ideal .f32) : elt (code n.val : Ideal .f32) row = row n := by
  unfold elt
  have h : (FloatOps.cmpf .ogt (code n.val : Ideal .f32) (FloatOps.ofBits .f32 0x3F000000#32) : BitVec 1) = 1#1 := by
    show Ideal.cmp .ogt (code n.val : Ideal .f32) (Ideal.ofBits .f32 0x3F000000#32) = 1#1
    rw [ideal_code n.val n.isLt, half_bits]
    refine congrArg BitVec.ofBool (decide_eq_true (EReal.coe_lt_coe_iff.mpr ?_))
    have : (0 : ℝ) ≤ (n.val : ℝ) := Nat.cast_nonneg _
    push_cast
    linarith
  have e : srcLane (code n.val : Ideal .f32) = n := Fin.ext (by
    have := n.isLt
    show (srcWord (code n.val : Ideal .f32)).toNat % 12544 = n.val
    rw [exact_ideal.code n.val n.isLt, BitVec.toNat_ofNat]
    omega)
  rw [h, e]; rfl

/-- The result array is the scatter of `x`'s own values. -/
theorem outArr_eq (a0 : Vec Ideal S8x192x112x112 .f32) (a1 : IVec S8x192x112x112 32) :
    outArr (xArr a0) (posArr a1)
      = Host.scatter scatter_S1536x50176_S1536x12544x2_S1536x12544_n_01_01_2 (fun _ b => b) zerosA (pairs a1) (xArr a0) := by
  funext j
  have h0 : ∀ i : S1536x50176.Idx, elt (zerosA (F := Ideal) i) (fun l => xArr a0 (ix2 (i 0) l)) = zerosA (F := Ideal) i := fun i => elt_zero _
  have hu : ∀ (n : S1536x12544.Idx) (i : S1536x50176.Idx),
      scatter_S1536x50176_S1536x12544x2_S1536x12544_n_01_01_2.resultIdx? n (pairs a1) = some i →
        elt (codes (F := Ideal) n) (fun l => xArr a0 (ix2 (i 0) l)) = xArr a0 n := fun n i h => by
    have ei : i 0 = n 0 := Fin.ext (lands_row a1 n i h)
    refine (congrArg (fun w => elt w fun l => xArr a0 (ix2 (i 0) l)) (codes_apply (F := Ideal) n)).trans ?_
    refine (elt_code (n 1) fun l => xArr a0 (ix2 (i 0) l)).trans ?_
    exact congrArg (xArr a0) ((congrArg (fun r => ix2 r (n 1)) ei).trans (eq_ix2 n).symm)
  have key := scatter_rel scatter_S1536x50176_S1536x12544x2_S1536x12544_n_01_01_2 (pairs a1)
    (fun i (w o : Ideal .f32) => elt w (fun l => xArr a0 (ix2 (i 0) l)) = o) (zerosA (F := Ideal)) (zerosA (F := Ideal)) (codes (F := Ideal)) (xArr a0)
  have key := key h0
  have key := key hu
  have key := key j
  unfold outArr posArr
  exact key

end Cert.Proof.Unpool

end

end
-- ==== Proof.Reference.lean ====
/-
  The reference's run: what each of its arrays holds at the end, as a term over the two arguments.
-/
module

public import proofs.«01_k».proof.Proof.Host
public import proofs.«01_k».proof.Proof.Gen.ReferenceIdeal
public import Idealize.ShloMosaic.Lib.Claim

@[expose] public section

noncomputable section

namespace Cert.Proof.Unpool.Ref

open Cert.ReferenceIdeal Cert.ReferenceIdeal.Gen

open Idealize.ShloMosaic
open Idealize.SL Idealize.SL.Sem

variable {F : FTy → Type} [FloatOps F]

/-- The reference's operations, in order. -/
def opsR : List (HloOp τ sig (Elt F)) := [
  StableHlo.reshape main_arg0 main_v0 (rfl : (.f32 : EltTy) = .f32) shapeCasts_S8x192x112x112_S1536x12544,
  StableHlo.reshape main_arg1 main_v1 (rfl : (.i32 : EltTy) = .i32) shapeCasts_S8x192x112x112_S1536x12544,
  StableHlo.nullary main_v2 (iotaInDim S1536 32 0),
  StableHlo.unary main_v2 main_v3 (broadcastInDim S1536x1 ![0] bcast_S1536_S1536x1_0 : (⟨S1536, .i32⟩ : BufTy).Contents (Elt F) → (⟨S1536x1, .i32⟩ : BufTy).Contents (Elt F)),
  StableHlo.nullary main_cst (constant S_ .f32 0x00000000#32),
  StableHlo.unary main_cst main_v4 (broadcastInDim S1536x50176 ![] bcast_S_S1536x50176 : (⟨S_, .f32⟩ : BufTy).Contents (Elt F) → (⟨S1536x50176, .f32⟩ : BufTy).Contents (Elt F)),
  StableHlo.nullary main_c (constantI S_ 32 0#32),
  StableHlo.unary main_c main_v5 (broadcastInDim S1536x1 ![] bcast_S_S1536x1 : (⟨S_, .i32⟩ : BufTy).Contents (Elt F) → (⟨S1536x1, .i32⟩ : BufTy).Contents (Elt F)),
  StableHlo.binary main_v3 main_v5 main_v6 (cmpi .slt : (⟨S1536x1, .i32⟩ : BufTy).Contents (Elt F) → (⟨S1536x1, .i32⟩ : BufTy).Contents (Elt F) → (⟨S1536x1, .i1⟩ : BufTy).Contents (Elt F)),
  StableHlo.nullary main_c_0 (constantI S_ 32 1536#32),
  StableHlo.unary main_c_0 main_v7 (broadcastInDim S1536x1 ![] bcast_S_S1536x1 : (⟨S_, .i32⟩ : BufTy).Contents (Elt F) → (⟨S1536x1, .i32⟩ : BufTy).Contents (Elt F)),
  StableHlo.binary main_v3 main_v7 main_v8 (addi : (⟨S1536x1, .i32⟩ : BufTy).Contents (Elt F) → (⟨S1536x1, .i32⟩ : BufTy).Contents (Elt F) → (⟨S1536x1, .i32⟩ : BufTy).Contents (Elt F)),
  StableHlo.ternary main_v6 main_v8 main_v3 main_v9 (select : (⟨S1536x1, .i1⟩ : BufTy).Contents (Elt F) → (⟨S1536x1, .i32⟩ : BufTy).Contents (Elt F) → (⟨S1536x1, .i32⟩ : BufTy).Contents (Elt F) → (⟨S1536x1, .i32⟩ : BufTy).Contents (Elt F)),
  StableHlo.nullary main_c_1 (constantI S_ 32 0#32),
  StableHlo.unary main_c_1 main_v10 (broadcastInDim S1536x12544 ![] bcast_S_S1536x12544 : (⟨S_, .i32⟩ : BufTy).Contents (Elt F) → (⟨S1536x12544, .i32⟩ : BufTy).Contents (Elt F)),
  StableHlo.binary main_v1 main_v10 main_v11 (cmpi .slt : (⟨S1536x12544, .i32⟩ : BufTy).Contents (Elt F) → (⟨S1536x12544, .i32⟩ : BufTy).Contents (Elt F) → (⟨S1536x12544, .i1⟩ : BufTy).Contents (Elt F)),
  StableHlo.nullary main_c_2 (constantI S_ 32 50176#32),
  StableHlo.unary main_c_2 main_v12 (broadcastInDim S1536x12544 ![] bcast_S_S1536x12544 : (⟨S_, .i32⟩ : BufTy).Contents (Elt F) → (⟨S1536x12544, .i32⟩ : BufTy).Contents (Elt F)),
  StableHlo.binary main_v1 main_v12 main_v13 (addi : (⟨S1536x12544, .i32⟩ : BufTy).Contents (Elt F) → (⟨S1536x12544, .i32⟩ : BufTy).Contents (Elt F) → (⟨S1536x12544, .i32⟩ : BufTy).Contents (Elt F)),
  StableHlo.ternary main_v11 main_v13 main_v1 main_v14 (select : (⟨S1536x12544, .i1⟩ : BufTy).Contents (Elt F) → (⟨S1536x12544, .i32⟩ : BufTy).Contents (Elt F) → (⟨S1536x12544, .i32⟩ : BufTy).Contents (Elt F) → (⟨S1536x12544, .i32⟩ : BufTy).Contents (Elt F)),
  StableHlo.unary main_v9 main_v15 (broadcastInDim S1536x12544 ![0, 1] bcast_S1536x1_S1536x12544_0_1 : (⟨S1536x1, .i32⟩ : BufTy).Contents (Elt F) → (⟨S1536x12544, .i32⟩ : BufTy).Contents (Elt F)),
  StableHlo.unary main_v15 main_v16 (broadcastInDim S1536x12544x1 ![0, 1] bcast_S1536x12544_S1536x12544x1_0_1 : (⟨S1536x12544, .i32⟩ : BufTy).Contents (Elt F) → (⟨S1536x12544x1, .i32⟩ : BufTy).Contents (Elt F)),
  StableHlo.unary main_v14 main_v17 (broadcastInDim S1536x12544x1 ![0, 1] bcast_S1536x12544_S1536x12544x1_0_1 : (⟨S1536x12544, .i32⟩ : BufTy).Contents (Elt F) → (⟨S1536x12544x1, .i32⟩ : BufTy).Contents (Elt F)),
  StableHlo.binary main_v16 main_v17 main_v18 ((fun a b => concatenate S1536x12544x2 2 [⟨S1536x12544x1, a⟩, ⟨S1536x12544x1, b⟩] concatenates_S1536x12544x1_S1536x12544x1_S1536x12544x2_d2) : (⟨S1536x12544x1, .i32⟩ : BufTy).Contents (Elt F) → (⟨S1536x12544x1, .i32⟩ : BufTy).Contents (Elt F) → (⟨S1536x12544x2, .i32⟩ : BufTy).Contents (Elt F)),
  StableHlo.ternary main_v4 main_v18 main_v0 main_v19 ((fun x i u => Host.scatter scatter_S1536x50176_S1536x12544x2_S1536x12544_n_01_01_2 (fun _ b => b) x i u) : (⟨S1536x50176, .f32⟩ : BufTy).Contents (Elt F) → (⟨S1536x12544x2, .i32⟩ : BufTy).Contents (Elt F) → (⟨S1536x12544, .f32⟩ : BufTy).Contents (Elt F) → (⟨S1536x50176, .f32⟩ : BufTy).Contents (Elt F)),
  StableHlo.reshape main_v19 main_v20 (rfl : (.f32 : EltTy) = .f32) shapeCasts_S1536x50176_S8x192x224x224]

/-- The reference is its operations in order. -/
theorem main_seq (d : Dev nD) : StableHlo.IsSeq (main (F := F) d) opsR := by
  unfold opsR main
  hlo_seq

/-- Each operation works on the TensorCore's own arrays. -/
theorem opsR_sub : (opsR : List (HloOp τ sig (Elt F))).Forall fun op => op.bufs ⊆ StableHlo.tcRefs τ sig := by
  unfold opsR
  simp

theorem opsR_fresh : ∀ op ∈ (opsR : List (HloOp τ sig (Elt F))), op.fresh = ∅ := by
  intro _ h; (repeat (cases h with | head => rfl | tail _ h => ?_)); exact nomatch h

/-- The reference's run ends with each array as the operations leave it. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = StableHlo.after opsR (StableHlo.launchContents m d) (Proc.devRef .tc b) :=
  StableHlo.run_hlo (ops := opsR) defs main main_seq (by decide) (by decide) opsR_sub opsR_fresh m ρ

variable (V : Valuation τ sig (Elt F))

/-- The operations up to the pairs' two halves. -/
def opsR₁ : List (HloOp τ sig (Elt F)) := opsR.take 23
def opsR₂ : List (HloOp τ sig (Elt F)) := opsR.drop 23

theorem after_split : StableHlo.after opsR V = StableHlo.after opsR₂ (StableHlo.after opsR₁ V) := rfl

theorem read_v16 : StableHlo.after opsR₁ V (Proc.devRef .tc main_v16) = rowsB := by
  unfold opsR₁ opsR
  simp only [List.take_succ_cons, List.take_zero]
  after_results_simp
  rfl

theorem read_v17 : StableHlo.after opsR₁ V (Proc.devRef .tc main_v17) = colsB (V (Proc.devRef .tc main_arg1)) := by
  unfold opsR₁ opsR
  simp only [List.take_succ_cons, List.take_zero]
  after_results_simp
  rfl

theorem read_v0 : StableHlo.after opsR₁ V (Proc.devRef .tc main_v0) = xArr (V (Proc.devRef .tc main_arg0)) := by
  unfold opsR₁ opsR
  simp only [List.take_succ_cons, List.take_zero]
  after_results_simp
  rfl

theorem read_v4 : StableHlo.after opsR₁ V (Proc.devRef .tc main_v4) = zerosA (F := F) := by
  unfold opsR₁ opsR
  simp only [List.take_succ_cons, List.take_zero]
  after_results_simp
  rfl

/-- The reference's result: the values scattered at the pairs, over zeros, one plane a row, reshaped. -/
def refOut (a0 : Vec F S8x192x112x112 .f32) (a1 : IVec S8x192x112x112 32) : Vec F S8x192x224x224 .f32 :=
  shapeCast S8x192x224x224
    (Host.scatter scatter_S1536x50176_S1536x12544x2_S1536x12544_n_01_01_2 (fun _ b => b) (zerosA (F := F)) (pairs a1) (xArr a0))
    shapeCasts_S1536x50176_S8x192x224x224

/-- What the reference's result array holds. -/
theorem read_v20 : StableHlo.after opsR V (Proc.devRef .tc main_v20) = refOut (V (Proc.devRef .tc main_arg0)) (V (Proc.devRef .tc main_arg1)) := by
  rw [after_split]
  have h16 := read_v16 V
  have h17 := read_v17 V
  have h0 := read_v0 V
  have h4 := read_v4 V
  generalize StableHlo.after opsR₁ V = W at *
  unfold opsR₂ opsR
  simp only [List.drop_succ_cons, List.drop_zero]
  after_results_simp
  rw [h16, h17, h0, h4]
  rfl

theorem read_arg0 : StableHlo.after opsR V (Proc.devRef .tc main_arg0) = V (Proc.devRef .tc main_arg0) := by
  unfold opsR
  after_results_simp

theorem read_arg1 : StableHlo.after opsR V (Proc.devRef .tc main_arg1) = V (Proc.devRef .tc main_arg1) := by
  unfold opsR
  after_results_simp

end Cert.Proof.Unpool.Ref

end

end
-- ==== Proof.lean ====
/-
  The five claims: the kernel runs and leaves its arguments and every semaphore counter as they were, over machine floats
  and over the extended reals; so does the reference; and over the extended reals the two compute the same array.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Equation
public import proofs.«01_k».proof.Proof.Reference

@[expose] public section

noncomputable section

namespace Cert.Proof

open Idealize.ShloMosaic Idealize.SL.Sem

/-- The kernel over machine floats ends, faults nowhere, and leaves its arguments and the semaphores as they were. -/
theorem frame_kernel : Cert.quiescent_Kernel (hKernel := Cert.Kernel.Gen.facts) := fun m ρ _ =>
  (θ_run (Cert.KernelIdeal.defs (F := Bits)) _ _).mono (fun _ h => ⟨fun c => (h.1 c).2, h.2⟩)
    (Unpool.run_main (F := Bits) m ρ fun _ => Unpool.inRange Unpool.exact_bits _)

/-- The same over the extended reals. -/
theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩)
    (Unpool.run_main (F := Ideal) m ρ fun _ => Unpool.inRange Unpool.exact_ideal _)

/-- The reference ends, faults nowhere, and leaves its arguments and the semaphores as they were. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => ⟨(h c Cert.ReferenceIdeal.main_arg0).trans (Unpool.Ref.read_arg0 _),
      (h c Cert.ReferenceIdeal.main_arg1).trans (Unpool.Ref.read_arg1 _)⟩, sem_eq_zero_of_no_sems (by decide) r.2⟩)
    (Unpool.Ref.run_main (F := Ideal) m ρ)

/-- The reference's result, from arguments that are the kernel's, is the array that the kernel's call leaves, reshaped. -/
theorem refOut_eq (a0 : Vec Ideal Cert.KernelIdeal.S8x192x112x112 .f32) (a1 : IVec Cert.KernelIdeal.S8x192x112x112 32) :
    Unpool.Ref.refOut a0 a1
      = shapeCast Cert.KernelIdeal.S8x192x224x224 (Unpool.outArr (Unpool.xArr a0) (Unpool.posArr a1))
          Cert.KernelIdeal.Gen.facts.shapeCasts_S1536x50176_S8x192x224x224 := by
  rw [Unpool.outArr_eq]
  rfl

/-- Over the extended reals, the kernel and the reference compute the same array. -/
theorem same : Cert.algebraic_KernelIdeal_ReferenceIdeal (hKernelIdeal := Cert.KernelIdeal.Gen.facts)
    (hReferenceIdeal := Cert.ReferenceIdeal.Gen.facts) := by
  intro m ρ m' ρ' _ hagree
  refine ⟨fun c => Unpool.resOut m c, ?_, ?_⟩
  · exact (θ_run (Cert.KernelIdeal.defs (F := Ideal)) _ _).mono (fun _ h => h.1)
      (Unpool.run_main (F := Ideal) m ρ fun _ => Unpool.inRange Unpool.exact_ideal _)
  · refine (θ_run (Cert.ReferenceIdeal.defs (F := Ideal)) _ _).mono (fun r h c => ⟨?_,
      (h c Cert.ReferenceIdeal.main_arg0).trans (Unpool.Ref.read_arg0 _),
      (h c Cert.ReferenceIdeal.main_arg1).trans (Unpool.Ref.read_arg1 _)⟩) (Unpool.Ref.run_main (F := Ideal) m' ρ')
    refine ((h c Cert.ReferenceIdeal.main_v20).trans (Unpool.Ref.read_v20 _)).trans ?_
    refine (congrArg₂ (Unpool.Ref.refOut (F := Ideal)) (hagree c).1 (hagree c).2).trans ?_
    exact refOut_eq _ _

theorem claim : Cert.Claim := ⟨Cert.Kernel.Gen.facts, Cert.KernelIdeal.Gen.facts, Cert.ReferenceIdeal.Gen.facts,
  frame_kernel, frame_ideal, frame_reference, trivial, same⟩

end Cert.Proof

end
